-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 1024, 16, 64]⟩ ⟨4, ![2, 1024, 32, 64]⟩ (Layout.meshBlock [2, 2, 2] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![2, 512, 2048]⟩ ⟨3, ![2, 1024, 2048]⟩ (Layout.meshBlock [2, 2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x16x64 : Shape := ⟨4, ![2, 1024, 16, 64]⟩
abbrev S1024x2048 : Shape := ⟨2, ![1024, 2048]⟩
abbrev S2x1024x1024 : Shape := ⟨3, ![2, 1024, 1024]⟩
abbrev S2x512x2048 : Shape := ⟨3, ![2, 512, 2048]⟩
abbrev S4x2x32x2048 : Shape := ⟨4, ![4, 2, 32, 2048]⟩
abbrev S2x2x32x2048 : Shape := ⟨4, ![2, 2, 32, 2048]⟩
abbrev S4 : Shape := ⟨1, ![4]⟩
abbrev S2 : Shape := ⟨1, ![2]⟩
abbrev S_ : Shape := ⟨0, ![]⟩
abbrev S1x32x1024 : Shape := ⟨3, ![1, 32, 1024]⟩
abbrev S32x1024 : Shape := ⟨2, ![32, 1024]⟩
abbrev S32x2048 : Shape := ⟨2, ![32, 2048]⟩
abbrev S1x1x32x2048 : Shape := ⟨4, ![1, 1, 32, 2048]⟩
abbrev S1 : Shape := ⟨1, ![1]⟩
abbrev S1x2x32x2048 : Shape := ⟨4, ![1, 2, 32, 2048]⟩
abbrev S2x32x2048 : Shape := ⟨3, ![2, 32, 2048]⟩
abbrev S1x128x1024 : Shape := ⟨3, ![1, 128, 1024]⟩
abbrev S128x1024 : Shape := ⟨2, ![128, 1024]⟩
abbrev S128x2048 : Shape := ⟨2, ![128, 2048]⟩
abbrev S1x128x2048 : Shape := ⟨3, ![1, 128, 2048]⟩
abbrev S1x32x2048 : Shape := ⟨3, ![1, 32, 2048]⟩

abbrev nBuf : Space → Nat
  | .hbm => 4
  | .vmem => 9
  | .smem => 0
  | _ => 0

abbrev bufTy : (tb : Table) → Fin (tcTables nBuf tb) → BufTy
  | .hbm, ⟨0, _⟩ => ⟨S2x1024x16x64, .f32⟩
  | .hbm, ⟨1, _⟩ => ⟨S1024x2048, .f32⟩
  | .hbm, ⟨2, _⟩ => ⟨S2x1024x1024, .f32⟩
  | .hbm, ⟨3, _⟩ => ⟨S2x512x2048, .f32⟩
  | .local _ .vmem, ⟨0, _⟩ => ⟨S2x1024x1024, .f32⟩
  | .local _ .vmem, ⟨1, _⟩ => ⟨S1024x2048, .f32⟩
  | .local _ .vmem, ⟨2, _⟩ => ⟨S2x512x2048, .f32⟩
  | .local _ .vmem, ⟨3, _⟩ => ⟨S4x2x32x2048, .f32⟩
  | .local _ .vmem, ⟨4, _⟩ => ⟨S4x2x32x2048, .f32⟩
  | .local _ .vmem, ⟨5, _⟩ => ⟨S4x2x32x2048, .f32⟩
  | .local _ .vmem, ⟨6, _⟩ => ⟨S4x2x32x2048, .f32⟩
  | .local _ .vmem, ⟨7, _⟩ => ⟨S2x2x32x2048, .f32⟩
  | .local _ .vmem, ⟨8, _⟩ => ⟨S2x2x32x2048, .f32⟩
  | _, _ => ⟨S2x1024x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v25 : BitVec 32 := Scalar.muli v9 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v31 : BitVec 32 := Scalar.muli v2 c4_i32_19
  let v32 : BitVec 32 := Scalar.addi c0_i32_20 v31
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_21 : BitVec 32 := 2#32
  let v33 : BitVec 32 := Scalar.muli v10 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v39 : BitVec 32 := Scalar.muli v5 c2_i32_26
  let v40 : BitVec 32 := Scalar.addi v38 v39
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v41 : BitVec 32 := Scalar.muli v11 c1_i32_27
  let v42 : BitVec 32 := Scalar.addi v40 v41
  v42.toNat
def k0_off1 (d0 : Dev nD) (c0_i32_29 : BitVec 32) : Fin 3 → Nat :=
  let c0 : Index := 0#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v43 : BitVec 32 := Scalar.subi c1_i32_28 v2
  let c512_i32 : BitVec 32 := 512#32
  let v44 : BitVec 32 := Scalar.muli v43 c512_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32 : BitVec 32 := 128#32
  let v45 : BitVec 32 := Scalar.muli v13 c128_i32
  let v46 : BitVec 32 := Scalar.addi v44 v45
  let v47 : BitVec 32 := Scalar.addi v46 c0_i32_29
  let v48 : Index := Scalar.indexCast v47
  let c0_30 : Index := 0#32
  ![0, v48.toNat, 0]
def k0_off2 (d0 : Dev nD) (c0_i32_37 : BitVec 32) : Fin 3 → Nat :=
  let c1 : Index := 1#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v43 : BitVec 32 := Scalar.subi c1_i32_28 v2
  let c512_i32 : BitVec 32 := 512#32
  let v44 : BitVec 32 := Scalar.muli v43 c512_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32 : BitVec 32 := 128#32
  let v45 : BitVec 32 := Scalar.muli v13 c128_i32
  let v46 : BitVec 32 := Scalar.addi v44 v45
  let v57 : BitVec 32 := Scalar.addi v46 c0_i32_37
  let v58 : Index := Scalar.indexCast v57
  let c0_38 : Index := 0#32
  ![1, v58.toNat, 0]
def k0_dev4 (d0 : Dev nD) : Nat :=
  let c0_i32_51 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_50 : BitVec 32 := 4#32
  let v67 : BitVec 32 := Scalar.muli v9 c4_i32_50
  let v68 : BitVec 32 := Scalar.addi c0_i32_51 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v69 : BitVec 32 := Scalar.muli v5 c2_i32_52
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v71 : BitVec 32 := Scalar.muli v8 c1_i32_53
  let v72 : BitVec 32 := Scalar.addi v70 v71
  v72.toNat
def k0_dev5 (d0 : Dev nD) : Nat :=
  let c0_i32_84 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_83 : BitVec 32 := 4#32
  let v101 : BitVec 32 := Scalar.muli v9 c4_i32_83
  let v102 : BitVec 32 := Scalar.addi c0_i32_84 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v103 : BitVec 32 := Scalar.muli v5 c2_i32_85
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v105 : BitVec 32 := Scalar.muli v8 c1_i32_86
  let v106 : BitVec 32 := Scalar.addi v104 v105
  v106.toNat
def k0_dev6 (d0 : Dev nD) : Nat :=
  let c0_i32_116 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_115 : BitVec 32 := 4#32
  let v135 : BitVec 32 := Scalar.muli v9 c4_i32_115
  let v136 : BitVec 32 := Scalar.addi c0_i32_116 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_117 : BitVec 32 := 2#32
  let v137 : BitVec 32 := Scalar.muli v5 c2_i32_117
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_118 : BitVec 32 := 1#32
  let v139 : BitVec 32 := Scalar.muli v8 c1_i32_118
  let v140 : BitVec 32 := Scalar.addi v138 v139
  v140.toNat
def k0_dev7 (d0 : Dev nD) : Nat :=
  let c0_i32_148 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_147 : BitVec 32 := 4#32
  let v169 : BitVec 32 := Scalar.muli v9 c4_i32_147
  let v170 : BitVec 32 := Scalar.addi c0_i32_148 v169
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_149 : BitVec 32 := 2#32
  let v171 : BitVec 32 := Scalar.muli v5 c2_i32_149
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v173 : BitVec 32 := Scalar.muli v8 c1_i32_150
  let v174 : BitVec 32 := Scalar.addi v172 v173
  v174.toNat
def k0_dev8 (d0 : Dev nD) : Nat :=
  let c0_i32_177 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_176 : BitVec 32 := 4#32
  let v196 : BitVec 32 := Scalar.muli v2 c4_i32_176
  let v197 : BitVec 32 := Scalar.addi c0_i32_177 v196
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_178 : BitVec 32 := 2#32
  let v198 : BitVec 32 := Scalar.muli v10 c2_i32_178
  let v199 : BitVec 32 := Scalar.addi v197 v198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v200 : BitVec 32 := Scalar.muli v8 c1_i32_179
  let v201 : BitVec 32 := Scalar.addi v199 v200
  v201.toNat
def k0_dev9 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v210 : BitVec 32 := Scalar.muli v2 c4_i32_190
  let v211 : BitVec 32 := Scalar.addi c0_i32_191 v210
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_192 : BitVec 32 := 2#32
  let v212 : BitVec 32 := Scalar.muli v5 c2_i32_192
  let v213 : BitVec 32 := Scalar.addi v211 v212
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_193 : BitVec 32 := 1#32
  let v214 : BitVec 32 := Scalar.muli v11 c1_i32_193
  let v215 : BitVec 32 := Scalar.addi v213 v214
  v215.toNat
def k0_off3 (d0 : Dev nD) (c0_i32_200 : BitVec 32) : Fin 3 → Nat :=
  let c0_201 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_157 : BitVec 32 := 512#32
  let v183 : BitVec 32 := Scalar.muli v2 c512_i32_157
  let v224 : BitVec 32 := Scalar.addi v183 c0_i32_200
  let v225 : Index := Scalar.indexCast v224
  let c0_202 : Index := 0#32
  ![0, v225.toNat, 0]
def k0_off4 (d0 : Dev nD) (c0_i32_209 : BitVec 32) : Fin 3 → Nat :=
  let c1_210 : Index := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_157 : BitVec 32 := 512#32
  let v183 : BitVec 32 := Scalar.muli v2 c512_i32_157
  let v234 : BitVec 32 := Scalar.addi v183 c0_i32_209
  let v235 : Index := Scalar.indexCast v234
  let c0_211 : Index := 0#32
  ![1, v235.toNat, 0]
def k0_dev10 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v256 : BitVec 32 := Scalar.muli v2 c4_i32_236
  let v257 : BitVec 32 := Scalar.addi c0_i32_237 v256
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_238 : BitVec 32 := 2#32
  let v258 : BitVec 32 := Scalar.muli v10 c2_i32_238
  let v259 : BitVec 32 := Scalar.addi v257 v258
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_239 : BitVec 32 := 1#32
  let v260 : BitVec 32 := Scalar.muli v8 c1_i32_239
  let v261 : BitVec 32 := Scalar.addi v259 v260
  v261.toNat
def k0_dev11 (d0 : Dev nD) : Nat :=
  let c0_i32_251 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_250 : BitVec 32 := 4#32
  let v270 : BitVec 32 := Scalar.muli v2 c4_i32_250
  let v271 : BitVec 32 := Scalar.addi c0_i32_251 v270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v272 : BitVec 32 := Scalar.muli v5 c2_i32_252
  let v273 : BitVec 32 := Scalar.addi v271 v272
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_253 : BitVec 32 := 1#32
  let v274 : BitVec 32 := Scalar.muli v11 c1_i32_253
  let v275 : BitVec 32 := Scalar.addi v273 v274
  v275.toNat
def k0_dev12 (d0 : Dev nD) : Nat :=
  let c0_i32_296 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_295 : BitVec 32 := 4#32
  let v316 : BitVec 32 := Scalar.muli v2 c4_i32_295
  let v317 : BitVec 32 := Scalar.addi c0_i32_296 v316
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_297 : BitVec 32 := 2#32
  let v318 : BitVec 32 := Scalar.muli v10 c2_i32_297
  let v319 : BitVec 32 := Scalar.addi v317 v318
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_298 : BitVec 32 := 1#32
  let v320 : BitVec 32 := Scalar.muli v8 c1_i32_298
  let v321 : BitVec 32 := Scalar.addi v319 v320
  v321.toNat
def k0_dev13 (d0 : Dev nD) : Nat :=
  let c0_i32_310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_309 : BitVec 32 := 4#32
  let v330 : BitVec 32 := Scalar.muli v2 c4_i32_309
  let v331 : BitVec 32 := Scalar.addi c0_i32_310 v330
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_311 : BitVec 32 := 2#32
  let v332 : BitVec 32 := Scalar.muli v5 c2_i32_311
  let v333 : BitVec 32 := Scalar.addi v331 v332
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_312 : BitVec 32 := 1#32
  let v334 : BitVec 32 := Scalar.muli v11 c1_i32_312
  let v335 : BitVec 32 := Scalar.addi v333 v334
  v335.toNat
def k0_dev14 (d0 : Dev nD) : Nat :=
  let c0_i32_354 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_353 : BitVec 32 := 4#32
  let v376 : BitVec 32 := Scalar.muli v2 c4_i32_353
  let v377 : BitVec 32 := Scalar.addi c0_i32_354 v376
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_355 : BitVec 32 := 2#32
  let v378 : BitVec 32 := Scalar.muli v10 c2_i32_355
  let v379 : BitVec 32 := Scalar.addi v377 v378
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_356 : BitVec 32 := 1#32
  let v380 : BitVec 32 := Scalar.muli v8 c1_i32_356
  let v381 : BitVec 32 := Scalar.addi v379 v380
  v381.toNat
def k0_dev15 (d0 : Dev nD) : Nat :=
  let c0_i32_368 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_367 : BitVec 32 := 4#32
  let v390 : BitVec 32 := Scalar.muli v2 c4_i32_367
  let v391 : BitVec 32 := Scalar.addi c0_i32_368 v390
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_369 : BitVec 32 := 2#32
  let v392 : BitVec 32 := Scalar.muli v5 c2_i32_369
  let v393 : BitVec 32 := Scalar.addi v391 v392
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_370 : BitVec 32 := 1#32
  let v394 : BitVec 32 := Scalar.muli v11 c1_i32_370
  let v395 : BitVec 32 := Scalar.addi v393 v394
  v395.toNat
def k0_dev16 (d0 : Dev nD) : Nat :=
  let c0_i32_412 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_411 : BitVec 32 := 4#32
  let v436 : BitVec 32 := Scalar.muli v2 c4_i32_411
  let v437 : BitVec 32 := Scalar.addi c0_i32_412 v436
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_413 : BitVec 32 := 2#32
  let v438 : BitVec 32 := Scalar.muli v10 c2_i32_413
  let v439 : BitVec 32 := Scalar.addi v437 v438
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_414 : BitVec 32 := 1#32
  let v440 : BitVec 32 := Scalar.muli v8 c1_i32_414
  let v441 : BitVec 32 := Scalar.addi v439 v440
  v441.toNat
def k0_dev17 (d0 : Dev nD) : Nat :=
  let c0_i32_440 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_439 : BitVec 32 := 4#32
  let v462 : BitVec 32 := Scalar.muli v2 c4_i32_439
  let v463 : BitVec 32 := Scalar.addi c0_i32_440 v462
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_441 : BitVec 32 := 2#32
  let v464 : BitVec 32 := Scalar.muli v10 c2_i32_441
  let v465 : BitVec 32 := Scalar.addi v463 v464
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_442 : BitVec 32 := 1#32
  let v466 : BitVec 32 := Scalar.muli v8 c1_i32_442
  let v467 : BitVec 32 := Scalar.addi v465 v466
  v467.toNat
def k0_dev18 (d0 : Dev nD) : Nat :=
  let c0_i32_468 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_467 : BitVec 32 := 4#32
  let v488 : BitVec 32 := Scalar.muli v2 c4_i32_467
  let v489 : BitVec 32 := Scalar.addi c0_i32_468 v488
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_469 : BitVec 32 := 2#32
  let v490 : BitVec 32 := Scalar.muli v5 c2_i32_469
  let v491 : BitVec 32 := Scalar.addi v489 v490
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_470 : BitVec 32 := 1#32
  let v492 : BitVec 32 := Scalar.muli v11 c1_i32_470
  let v493 : BitVec 32 := Scalar.addi v491 v492
  v493.toNat
def k0_dev19 (d0 : Dev nD) : Nat :=
  let c0_i32_496 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_495 : BitVec 32 := 4#32
  let v514 : BitVec 32 := Scalar.muli v2 c4_i32_495
  let v515 : BitVec 32 := Scalar.addi c0_i32_496 v514
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_497 : BitVec 32 := 2#32
  let v516 : BitVec 32 := Scalar.muli v5 c2_i32_497
  let v517 : BitVec 32 := Scalar.addi v515 v516
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_498 : BitVec 32 := 1#32
  let v518 : BitVec 32 := Scalar.muli v11 c1_i32_498
  let v519 : BitVec 32 := Scalar.addi v517 v518
  v519.toNat
def k0_off5 (d0 : Dev nD) (c0_i32_506 : BitVec 32) : Fin 3 → Nat :=
  let c0_507 : Index := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_505 : BitVec 32 := 128#32
  let v528 : BitVec 32 := Scalar.muli v13 c128_i32_505
  let v529 : BitVec 32 := Scalar.addi v528 c0_i32_506
  let v530 : Index := Scalar.indexCast v529
  let c0_508 : Index := 0#32
  ![0, v530.toNat, 0]
def k0_off6 (d0 : Dev nD) (c0_i32_516 : BitVec 32) : Fin 3 → Nat :=
  let c1_517 : Index := 1#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_515 : BitVec 32 := 128#32
  let v540 : BitVec 32 := Scalar.muli v13 c128_i32_515
  let v541 : BitVec 32 := Scalar.addi v540 c0_i32_516
  let v542 : Index := Scalar.indexCast v541
  let c0_518 : Index := 0#32
  ![1, v542.toNat, 0]
def k0_off7 (d0 : Dev nD) (c0_i32_642 : BitVec 32) : Fin 3 → Nat :=
  let c0_643 : Index := 0#32
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c128_i32_641 : BitVec 32 := 128#32
  let v672 : BitVec 32 := Scalar.muli v16 c128_i32_641
  let v673 : BitVec 32 := Scalar.addi v672 c0_i32_642
  let v674 : Index := Scalar.indexCast v673
  let c0_644 : Index := 0#32
  ![0, v674.toNat, 0]
def k0_off8 (d0 : Dev nD) (c0_i32_652 : BitVec 32) : Fin 3 → Nat :=
  let c1_653 : Index := 1#32
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c128_i32_651 : BitVec 32 := 128#32
  let v684 : BitVec 32 := Scalar.muli v16 c128_i32_651
  let v685 : BitVec 32 := Scalar.addi v684 c0_i32_652
  let v686 : Index := Scalar.indexCast v685
  let c0_654 : Index := 0#32
  ![1, v686.toNat, 0]
def k0_off9 (d0 : Dev nD) (c0_i32_722 : BitVec 32) : Fin 3 → Nat :=
  let c0_723 : Index := 0#32
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c128_i32_721 : BitVec 32 := 128#32
  let v768 : BitVec 32 := Scalar.muli v19 c128_i32_721
  let v769 : BitVec 32 := Scalar.addi v768 c0_i32_722
  let v770 : Index := Scalar.indexCast v769
  let c0_724 : Index := 0#32
  ![0, v770.toNat, 0]
def k0_off10 (d0 : Dev nD) (c0_i32_732 : BitVec 32) : Fin 3 → Nat :=
  let c1_733 : Index := 1#32
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c128_i32_731 : BitVec 32 := 128#32
  let v780 : BitVec 32 := Scalar.muli v19 c128_i32_731
  let v781 : BitVec 32 := Scalar.addi v780 c0_i32_732
  let v782 : Index := Scalar.indexCast v781
  let c0_734 : Index := 0#32
  ![1, v782.toNat, 0]
def k0_off11 (d0 : Dev nD) (c0_i32_816 : BitVec 32) : Fin 3 → Nat :=
  let c0_817 : Index := 0#32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c128_i32_815 : BitVec 32 := 128#32
  let v876 : BitVec 32 := Scalar.muli v23 c128_i32_815
  let v877 : BitVec 32 := Scalar.addi v876 c0_i32_816
  let v878 : Index := Scalar.indexCast v877
  let c0_818 : Index := 0#32
  ![0, v878.toNat, 0]
def k0_off12 (d0 : Dev nD) (c0_i32_826 : BitVec 32) : Fin 3 → Nat :=
  let c1_827 : Index := 1#32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c128_i32_825 : BitVec 32 := 128#32
  let v888 : BitVec 32 := Scalar.muli v23 c128_i32_825
  let v889 : BitVec 32 := Scalar.addi v888 c0_i32_826
  let v890 : Index := Scalar.indexCast v889
  let c0_828 : Index := 0#32
  ![1, v890.toNat, 0]
abbrev stage0_0 : Fin 1 → Memref sig .tc .vmem S2x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x32x64 : Shape := ⟨4, ![2, 1024, 32, 64]⟩
abbrev S2048x2048 : Shape := ⟨2, ![2048, 2048]⟩
abbrev S2x1024x2048 : Shape := ⟨3, ![2, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x32x64, .f32⟩
  | .hbm, ⟨1, _⟩ => ⟨S2048x2048, .f32⟩
  | .hbm, ⟨2, _⟩ => ⟨S2x1024x2048, .f32⟩
  | .hbm, ⟨3, _⟩ => ⟨S2x1024x2048, .f32⟩
  | _, _ => ⟨S2x1024x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Links.lean ====
/-
  The mesh and its sixteen copies. Device `c` sits at `(c / 4, c / 2 % 2, c % 2)`; `xn`, `yn` and `zn` flip one
  coordinate. Every copy of the kernel goes to the device with one coordinate flipped, so the sixteen copies are
  the sixteen `Link`s, each with its own send and receive semaphore on every device.
-/
module

public import proofs.«01_k».proof.Proof.Gen.KernelIdeal.Skeleton
public import proofs.«01_k».proof.Proof.Gen.KernelIdeal.Launch
public import Idealize.ShloMosaic.Lib.ValueLayout
public import Idealize.ShloMosaic.Lib.Pipeline.Value
public import Mathlib.Tactic.DeriveFintype

@[expose] public section

set_option maxRecDepth 16384

noncomputable section

namespace Cert.KernelIdeal.Scatter

open Idealize.ShloMosaic Idealize.ShloMosaic.TcCoe
open Cert.KernelIdeal.Gen

/-! ## The neighbours -/

/-- The device with the first mesh coordinate flipped. -/
def xn (c : Dev nD) : Dev nD := (![4, 5, 6, 7, 0, 1, 2, 3] : Fin 8 → Fin 8) c
/-- The device with the second mesh coordinate flipped. -/
def yn (c : Dev nD) : Dev nD := (![2, 3, 0, 1, 6, 7, 4, 5] : Fin 8 → Fin 8) c
/-- The device with the third mesh coordinate flipped. -/
def zn (c : Dev nD) : Dev nD := (![1, 0, 3, 2, 5, 4, 7, 6] : Fin 8 → Fin 8) c

/-- Flipping the first coordinate twice gives the device back. -/
theorem xn_xn : ∀ c, xn (xn c) = c := by decide
/-- Flipping the second coordinate twice gives the device back. -/
theorem yn_yn : ∀ c, yn (yn c) = c := by decide
/-- Flipping the third coordinate twice gives the device back. -/
theorem zn_zn : ∀ c, zn (zn c) = c := by decide

/-- The kernel's computed device numbers are these neighbours. -/
theorem dev1_eq : ∀ c : Dev nD, (⟨k0_dev1 c, k0_dev1_lt c⟩ : Dev nD) = xn c := by decide +kernel
/-- The printed device number 2 is the neighbour along the second axis. -/
theorem dev2_eq : ∀ c : Dev nD, (⟨k0_dev2 c, k0_dev2_lt c⟩ : Dev nD) = yn c := by decide +kernel
/-- The printed device number 3 is the neighbour along the third axis. -/
theorem dev3_eq : ∀ c : Dev nD, (⟨k0_dev3 c, k0_dev3_lt c⟩ : Dev nD) = zn c := by decide +kernel
/-- The printed device number 4 is the neighbour along the first axis. -/
theorem dev4_eq : ∀ c : Dev nD, (⟨k0_dev4 c, k0_dev4_lt c⟩ : Dev nD) = xn c := by decide +kernel
/-- The printed device number 5 is the neighbour along the first axis. -/
theorem dev5_eq : ∀ c : Dev nD, (⟨k0_dev5 c, k0_dev5_lt c⟩ : Dev nD) = xn c := by decide +kernel
/-- The printed device number 6 is the neighbour along the first axis. -/
theorem dev6_eq : ∀ c : Dev nD, (⟨k0_dev6 c, k0_dev6_lt c⟩ : Dev nD) = xn c := by decide +kernel
/-- The printed device number 7 is the neighbour along the first axis. -/
theorem dev7_eq : ∀ c : Dev nD, (⟨k0_dev7 c, k0_dev7_lt c⟩ : Dev nD) = xn c := by decide +kernel
/-- The printed device number 8 is the neighbour along the second axis. -/
theorem dev8_eq : ∀ c : Dev nD, (⟨k0_dev8 c, k0_dev8_lt c⟩ : Dev nD) = yn c := by decide +kernel
/-- The printed device number 9 is the neighbour along the third axis. -/
theorem dev9_eq : ∀ c : Dev nD, (⟨k0_dev9 c, k0_dev9_lt c⟩ : Dev nD) = zn c := by decide +kernel
/-- The printed device number 10 is the neighbour along the second axis. -/
theorem dev10_eq : ∀ c : Dev nD, (⟨k0_dev10 c, k0_dev10_lt c⟩ : Dev nD) = yn c := by decide +kernel
/-- The printed device number 11 is the neighbour along the third axis. -/
theorem dev11_eq : ∀ c : Dev nD, (⟨k0_dev11 c, k0_dev11_lt c⟩ : Dev nD) = zn c := by decide +kernel
/-- The printed device number 12 is the neighbour along the second axis. -/
theorem dev12_eq : ∀ c : Dev nD, (⟨k0_dev12 c, k0_dev12_lt c⟩ : Dev nD) = yn c := by decide +kernel
/-- The printed device number 13 is the neighbour along the third axis. -/
theorem dev13_eq : ∀ c : Dev nD, (⟨k0_dev13 c, k0_dev13_lt c⟩ : Dev nD) = zn c := by decide +kernel
/-- The printed device number 14 is the neighbour along the second axis. -/
theorem dev14_eq : ∀ c : Dev nD, (⟨k0_dev14 c, k0_dev14_lt c⟩ : Dev nD) = yn c := by decide +kernel
/-- The printed device number 15 is the neighbour along the third axis. -/
theorem dev15_eq : ∀ c : Dev nD, (⟨k0_dev15 c, k0_dev15_lt c⟩ : Dev nD) = zn c := by decide +kernel
/-- The printed device number 16 is the neighbour along the second axis. -/
theorem dev16_eq : ∀ c : Dev nD, (⟨k0_dev16 c, k0_dev16_lt c⟩ : Dev nD) = yn c := by decide +kernel
/-- The printed device number 17 is the neighbour along the second axis. -/
theorem dev17_eq : ∀ c : Dev nD, (⟨k0_dev17 c, k0_dev17_lt c⟩ : Dev nD) = yn c := by decide +kernel
/-- The printed device number 18 is the neighbour along the third axis. -/
theorem dev18_eq : ∀ c : Dev nD, (⟨k0_dev18 c, k0_dev18_lt c⟩ : Dev nD) = zn c := by decide +kernel
/-- The printed device number 19 is the neighbour along the third axis. -/
theorem dev19_eq : ∀ c : Dev nD, (⟨k0_dev19 c, k0_dev19_lt c⟩ : Dev nD) = zn c := by decide +kernel

/-! ## The offsets -/

/-- The first of the 512 rows that device `c` keeps. -/
def own (c : Dev nD) : ℕ := 512 * (c.val / 4)
/-- The first of the 512 rows that the device with the first coordinate flipped keeps. -/
def oth (c : Dev nD) : ℕ := 512 * (1 - c.val / 4)
/-- The device's quarter of those rows. -/
def qt (c : Dev nD) : ℕ := c.val % 4

/-- A device's kept rows begin at row 512 at the latest. -/
theorem own_le : ∀ c : Dev nD, own c ≤ 512 := by decide
/-- The other half's rows begin at row 512 at the latest. -/
theorem oth_le : ∀ c : Dev nD, oth c ≤ 512 := by decide
/-- A quarter's number is below four. -/
theorem qt_lt : ∀ c : Dev nD, qt c < 4 := by decide
/-- The rows that the neighbour along the first axis sends away are the device's own. -/
theorem own_xn : ∀ c : Dev nD, oth (xn c) = own c := by decide
/-- The rows that the neighbour along the first axis keeps are those the device sends away. -/
theorem own_xn' : ∀ c : Dev nD, own (xn c) = oth c := by decide
/-- The neighbour along the second axis keeps the same rows. -/
theorem own_yn : ∀ c : Dev nD, own (yn c) = own c := by decide
/-- The neighbour along the third axis keeps the same rows. -/
theorem own_zn : ∀ c : Dev nD, own (zn c) = own c := by decide
/-- The neighbour along the first axis has the same quarter. -/
theorem qt_xn : ∀ c : Dev nD, qt (xn c) = qt c := by decide

/-- Where chunk `k` of the rows to send begins, batch 0. -/
theorem off1_eq : ∀ (c : Dev nD) (k : Fin 4), k0_off1 c (BitVec.ofNat 32 (32 * k.val)) = ![0, oth c + 128 * qt c + 32 * k.val, 0] := by decide +kernel
/-- Where chunk `k` of the rows to send begins, batch 1. -/
theorem off2_eq : ∀ (c : Dev nD) (k : Fin 4), k0_off2 c (BitVec.ofNat 32 (32 * k.val)) = ![1, oth c + 128 * qt c + 32 * k.val, 0] := by decide +kernel
/-- Where quarter `k` of the kept rows begins, batch 0. -/
theorem off3_eq : ∀ (c : Dev nD) (k : Fin 4), k0_off3 c (BitVec.ofNat 32 (128 * k.val)) = ![0, own c + 128 * k.val, 0] := by decide +kernel
/-- Where quarter `k` of the kept rows begins, batch 1. -/
theorem off4_eq : ∀ (c : Dev nD) (k : Fin 4), k0_off4 c (BitVec.ofNat 32 (128 * k.val)) = ![1, own c + 128 * k.val, 0] := by decide +kernel
/-- Where chunk `k` of the device's own quarter begins in the result, batch 0. -/
theorem off5_eq : ∀ (c : Dev nD) (k : Fin 4), k0_off5 c (BitVec.ofNat 32 (32 * k.val)) = ![0, 128 * qt c + 32 * k.val, 0] := by decide +kernel
/-- Where chunk `k` of the device's own quarter begins in the result, batch 1. -/
theorem off6_eq : ∀ (c : Dev nD) (k : Fin 4), k0_off6 c (BitVec.ofNat 32 (32 * k.val)) = ![1, 128 * qt c + 32 * k.val, 0] := by decide +kernel
/-- Where chunk `k` of the quarter of the neighbour along the second axis begins in the result, batch 0. -/
theorem off7_eq : ∀ (c : Dev nD) (k : Fin 4), k0_off7 c (BitVec.ofNat 32 (32 * k.val)) = ![0, 128 * qt (yn c) + 32 * k.val, 0] := by decide +kernel
/-- Where chunk `k` of the quarter of the neighbour along the second axis begins in the result, batch 1. -/
theorem off8_eq : ∀ (c : Dev nD) (k : Fin 4), k0_off8 c (BitVec.ofNat 32 (32 * k.val)) = ![1, 128 * qt (yn c) + 32 * k.val, 0] := by decide +kernel
/-- Where chunk `k` of the quarter of the neighbour along the third axis begins in the result, batch 0. -/
theorem off9_eq : ∀ (c : Dev nD) (k : Fin 4), k0_off9 c (BitVec.ofNat 32 (32 * k.val)) = ![0, 128 * qt (zn c) + 32 * k.val, 0] := by decide +kernel
/-- Where chunk `k` of the quarter of the neighbour along the third axis begins in the result, batch 1. -/
theorem off10_eq : ∀ (c : Dev nD) (k : Fin 4), k0_off10 c (BitVec.ofNat 32 (32 * k.val)) = ![1, 128 * qt (zn c) + 32 * k.val, 0] := by decide +kernel
/-- Where chunk `k` of the diagonal neighbour's quarter begins in the result, batch 0. -/
theorem off11_eq : ∀ (c : Dev nD) (k : Fin 4), k0_off11 c (BitVec.ofNat 32 (32 * k.val)) = ![0, 128 * qt (yn (zn c)) + 32 * k.val, 0] := by decide +kernel
/-- Where chunk `k` of the diagonal neighbour's quarter begins in the result, batch 1. -/
theorem off12_eq : ∀ (c : Dev nD) (k : Fin 4), k0_off12 c (BitVec.ofNat 32 (32 * k.val)) = ![1, 128 * qt (yn (zn c)) + 32 * k.val, 0] := by decide +kernel

/-! ## Chunks of a stacked buffer -/

/-- A stack of `n` chunks. -/
abbrev SN (n : ℕ) : Shape := ⟨4, ![n, 2, 32, 2048]⟩

/-- Chunk `k` lies inside its buffer. -/
theorem inb_chk {n : ℕ} (k : Fin n) : ∀ a, (![k.val, 0, 0, 0] : Fin 4 → ℕ) a + S1x2x32x2048.size a ≤ (SN n).size a := fun a => by
  have h := k.isLt
  match a with
  | ⟨0, _⟩ => show k.val + 1 ≤ n; omega
  | ⟨1, _⟩ => show 0 + 2 ≤ 2; omega
  | ⟨2, _⟩ => show 0 + 32 ≤ 32; omega
  | ⟨3, _⟩ => show 0 + 2048 ≤ 2048; omega

/-- Chunk `k` of a stack, as the kernel's copies name it. -/
abbrev chk {n : ℕ} (B : Memref sig .tc .vmem (SN n) .f32) (k : Fin n) : Memref sig .tc .vmem S2x32x2048 .f32 :=
  (B.slice (Rect.unit (s := SN n) ![k.val, 0, 0, 0] S1x2x32x2048.size (inb_chk k)) (fun _ => rfl)).squeeze S2x32x2048
    squeezes_S1x2x32x2048_S2x32x2048

abbrev xsend : Memref sig .tc .vmem (SN 4) .f32 := Memref.whole cc0_scratch0
abbrev xrecv : Memref sig .tc .vmem (SN 4) .f32 := Memref.whole cc0_scratch1
abbrev ydrecv : Memref sig .tc .vmem (SN 4) .f32 := Memref.whole cc0_scratch2
abbrev zdrecv : Memref sig .tc .vmem (SN 4) .f32 := Memref.whole cc0_scratch3
abbrev yfrecv : Memref sig .tc .vmem (SN 2) .f32 := Memref.whole cc0_scratch4
abbrev zfrecv : Memref sig .tc .vmem (SN 2) .f32 := Memref.whole cc0_scratch5

/-! ## The links -/

/-- The copies: `x k` sends partial-product chunk `k` along the first axis; `yd k` and `zd k` pass what arrived on
    `x k` along the second and third; `yf k` passes what arrived on `zd k` (k = 0, 1) along the second, `zf k` what
    arrived on `yd (k + 2)` along the third. -/
inductive Link : Type
  | x (k : Fin 4)
  | yd (k : Fin 4)
  | zd (k : Fin 4)
  | yf (k : Fin 2)
  | zf (k : Fin 2)
  deriving DecidableEq, Fintype

namespace Link

/-- The upper half of a stack of four. -/
abbrev up (k : Fin 2) : Fin 4 := ⟨k.val + 2, by omega⟩
/-- The lower half of a stack of four. -/
abbrev lo (k : Fin 2) : Fin 4 := ⟨k.val, by omega⟩

/-- Which device a copy goes to, and comes from. -/
def nb : Link → Dev nD → Dev nD
  | x _ => xn
  | yd _ => yn
  | zd _ => zn
  | yf _ => yn
  | zf _ => zn

/-- A copy's receiver sends the like copy back to the device. -/
theorem nb_nb (l : Link) (c : Dev nD) : l.nb (l.nb c) = c := by
  cases l
  · exact xn_xn c
  · exact yn_yn c
  · exact zn_zn c
  · exact yn_yn c
  · exact zn_zn c

/-- The semaphore a copy completes on at its source. -/
def sendS : Link → DmaSem sig
  | x k => ⟨3 + k.val, by have := k.isLt; show 3 + k.val < 35; omega⟩
  | yd k => ⟨11 + k.val, by have := k.isLt; show 11 + k.val < 35; omega⟩
  | zd k => ⟨19 + k.val, by have := k.isLt; show 19 + k.val < 35; omega⟩
  | yf k => ⟨27 + k.val, by have := k.isLt; show 27 + k.val < 35; omega⟩
  | zf k => ⟨31 + k.val, by have := k.isLt; show 31 + k.val < 35; omega⟩

/-- The semaphore it completes on at its destination. -/
def recvS : Link → DmaSem sig
  | x k => ⟨7 + k.val, by have := k.isLt; show 7 + k.val < 35; omega⟩
  | yd k => ⟨15 + k.val, by have := k.isLt; show 15 + k.val < 35; omega⟩
  | zd k => ⟨23 + k.val, by have := k.isLt; show 23 + k.val < 35; omega⟩
  | yf k => ⟨29 + k.val, by have := k.isLt; show 29 + k.val < 35; omega⟩
  | zf k => ⟨33 + k.val, by have := k.isLt; show 33 + k.val < 35; omega⟩

/-- What it reads. -/
def srcM : Link → Memref sig .tc .vmem S2x32x2048 .f32
  | x k => chk xsend k
  | yd k => chk xrecv k
  | zd k => chk xrecv k
  | yf k => chk zdrecv (lo k)
  | zf k => chk ydrecv (up k)

/-- What it writes. -/
def dstM : Link → Memref sig .tc .vmem S2x32x2048 .f32
  | x k => chk xrecv k
  | yd k => chk ydrecv k
  | zd k => chk zdrecv k
  | yf k => chk yfrecv k
  | zf k => chk zfrecv k

/-- The level of its receive semaphore. -/
def level : Link → ℕ
  | x _ => 2
  | yd _ => 3
  | zd _ => 3
  | yf _ => 4
  | zf _ => 4

/-- The two semaphores of a link, by side. -/
def sem (p : Link × Fin 2) : SemLoc sig := if p.2 = 0 then .dma p.1.sendS else .dma p.1.recvS

/-- Different copies, and the two ends of one copy, have different semaphores. -/
theorem sem_inj : Function.Injective sem := by decide +kernel

/-- A send semaphore belongs to one copy. -/
theorem sendS_inj {l l' : Link} (h : l.sendS = l'.sendS) : l = l' :=
  congrArg Prod.fst (sem_inj (a₁ := (l, 0)) (a₂ := (l', 0)) (by show SemLoc.dma l.sendS = SemLoc.dma l'.sendS; rw [h]))
/-- A receive semaphore belongs to one copy. -/
theorem recvS_inj {l l' : Link} (h : l.recvS = l'.recvS) : l = l' :=
  congrArg Prod.fst (sem_inj (a₁ := (l, 1)) (a₂ := (l', 1)) (by show SemLoc.dma l.recvS = SemLoc.dma l'.recvS; rw [h]))
/-- No send semaphore is a receive semaphore. -/
theorem send_ne_recv (l l' : Link) : l.sendS ≠ l'.recvS := fun h =>
  absurd (congrArg Prod.snd (sem_inj (a₁ := (l, 0)) (a₂ := (l', 1)) (by show SemLoc.dma l.sendS = SemLoc.dma l'.recvS; rw [h]))) (show (0 : Fin 2) ≠ 1 by decide)

/-- All sixteen. -/
def all : List Link :=
  [x 0, x 1, x 2, x 3, yd 0, zd 0, yd 1, zd 1, yd 2, zd 2, yd 3, zd 3, yf 0, yf 1, zf 0, zf 1]

/-- The list of copies has no copy twice. -/
theorem all_nodup : all.Nodup := by decide
/-- Every copy is in the list. -/
theorem mem_all : ∀ l : Link, l ∈ all := by decide

end Link

end Cert.KernelIdeal.Scatter

end
-- ==== Proof.Chunk.lean ====
/-
  A chunk held by value, and the kernel's row accesses to it: a load of one of its two batch rows through the whole
  stack reads that row of the value, and a store there replaces that row.
-/
module

public import proofs.«01_k».proof.Proof.Links
public import Idealize.ShloMosaic.Lib.VecWindow
public import Idealize.ShloMosaic.Lib.Rounds
public import Idealize.ShloMosaic.Lib.Ring

@[expose] public section

set_option maxRecDepth 16384

noncomputable section

namespace Cert.KernelIdeal.Scatter

open Idealize.ShloMosaic Idealize.ShloMosaic.TcCoe
open Cert.KernelIdeal.Gen
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ghost state: the pipeline's copy of the rounds and the kernel's own. -/
abbrev UU : Type := UR sig nD τ × Rounds.URounds (GSem nD τ sig) (Fin 3)

local notation "𝕄" => MT nD τ sig Unit (Elt F) ℕ UU ℕ

/-! ## The row of a chunk as an index -/

/-- An index of one row of a chunk, as an index of the buffer. -/
theorem chk_index {n : ℕ} (k : Fin n) (b : Fin 2) (r : Fin 32) (j : Fin 2048) :
    (Rect.unit (s := SN n) ![k.val, 0, 0, 0] S1x2x32x2048.size (inb_chk k)).emb
      (Shape.reshapeEquiv squeezes_S1x2x32x2048_S2x32x2048.numel_eq (ix3 b r j)) = ix4 k b r j := by
  rw [show Shape.reshapeEquiv squeezes_S1x2x32x2048_S2x32x2048.numel_eq (ix3 b r j) = ix4 (⟨0, Nat.one_pos⟩ : Fin 1) b r j
    from reshapeEquiv_ix3_1abc _ b r j]
  funext a
  apply Fin.ext
  match a with
  | ⟨0, _⟩ => show k.val + 1 * 0 = k.val; omega
  | ⟨1, _⟩ => show 0 + 1 * b.val = b.val; omega
  | ⟨2, _⟩ => show 0 + 1 * r.val = r.val; omega
  | ⟨3, _⟩ => show 0 + 1 * j.val = j.val; omega

/-- An index of one batch's part of a chunk, as an index of the buffer. -/
theorem row_index {n : ℕ} (k : Fin n) (b : Fin 2)
    (h : ∀ a, (![k.val, b.val, 0, 0] : Fin 4 → ℕ) a + S1x1x32x2048.size a ≤ (SN n).size a) (x : S1x1x32x2048.Idx) :
    (Rect.unit (s := SN n) ![k.val, b.val, 0, 0] S1x1x32x2048.size h).emb x = ix4 k b (x 2) (x 3) := by
  funext a
  apply Fin.ext
  have h0 : (x 0).val = 0 := by have : (x 0).val < 1 := (x 0).isLt; omega
  have h1 : (x 1).val = 0 := by have : (x 1).val < 1 := (x 1).isLt; omega
  match a with
  | ⟨0, _⟩ => show k.val + 1 * (x 0).val = k.val; omega
  | ⟨1, _⟩ => show b.val + 1 * (x 1).val = b.val; omega
  | ⟨2, _⟩ => show 0 + 1 * (x 2).val = (x 2).val; omega
  | ⟨3, _⟩ => show 0 + 1 * (x 3).val = (x 3).val; omega

/-- A chunk read at an index is the stack read there. -/
theorem read_chk {n : ℕ} (B : Memref sig .tc .vmem (SN n) .f32) (k : Fin n) (f : B.view.ty.Contents (Elt F)) (y : S2x32x2048.Idx) :
    (chk B k).view.read (Elt F) f y = B.view.read (Elt F) f (ix4 k (y 0) (y 1) (y 2)) := by
  have e : y = ix3 (y 0) (y 1) (y 2) := eq_ix3 y
  conv_lhs => rw [e]
  exact congrArg (B.view.read (Elt F) f) (chk_index k (y 0) (y 1) (y 2))

/-- An element of chunk `k` is among the chunk's elements. -/
theorem emb_mem_chk {n : ℕ} (B : Memref sig .tc .vmem (SN n) .f32) (k : Fin n) (b : Fin 2) (r : Fin 32) (j : Fin 2048) :
    B.view.emb (ix4 k b r j) ∈ (chk B k).view.set := by
  have := (chk B k).view.emb_mem_set (ix3 b r j)
  rwa [show (chk B k).view.emb (ix3 b r j) = B.view.emb (ix4 k b r j) from congrArg B.view.emb (chk_index k b r j)] at this

section Rows

variable {n : ℕ} (B : Memref sig .tc .vmem (SN n) .f32) (k : Fin n) (b : Fin 2)
    (h : ∀ a, (![k.val, b.val, 0, 0] : Fin 4 → ℕ) a + S1x1x32x2048.size a ≤ (SN n).size a)

/-- One batch row of a chunk's value, as the kernel loads it. -/
def rowOf (V : Vec F S2x32x2048 .f32) (b : Fin 2) : Vec F S1x1x32x2048 .f32 := fun x => V (ix3 b (x 2) (x 3))
/-- A chunk's value with one batch row replaced. -/
def setRow (V : Vec F S2x32x2048 .f32) (b : Fin 2) (w : Vec F S1x1x32x2048 .f32) : Vec F S2x32x2048 .f32 :=
  fun y => if (y 0).val = b.val then w (ix4 (0 : Fin 1) (0 : Fin 1) (y 1) (y 2)) else V y

/-- A load of one batch's part reads inside the chunk. -/
theorem row_load_sub :
    (B.access (Rect.unit (s := SN n) ![k.val, b.val, 0, 0] S1x1x32x2048.size h)).set ⊆ (chk B k).view.set := by
  intro i hi
  obtain ⟨x, -, rfl⟩ := Finset.mem_map.mp hi
  have e : (B.access (Rect.unit (s := SN n) ![k.val, b.val, 0, 0] S1x1x32x2048.size h)).emb x = B.view.emb (ix4 k b (x 2) (x 3)) :=
    congrArg B.view.emb (row_index k b h x)
  rw [e]
  exact emb_mem_chk B k b (x 2) (x 3)

/-- A store to one batch's part writes inside the chunk. -/
theorem row_store_sub :
    (B.access (Rect.unit (s := SN n) ![k.val, b.val, 0, 0] S1x1x32x2048.size h)).setOn Finset.univ ⊆ (chk B k).view.set := by
  intro i hi
  obtain ⟨x, -, rfl⟩ := Finset.mem_map.mp hi
  have e : (B.access (Rect.unit (s := SN n) ![k.val, b.val, 0, 0] S1x1x32x2048.size h)).emb x = B.view.emb (ix4 k b (x 2) (x 3)) :=
    congrArg B.view.emb (row_index k b h x)
  rw [e]
  exact emb_mem_chk B k b (x 2) (x 3)

/-- What a load of one batch's part of a chunk reads. -/
theorem row_load (V : Vec F S2x32x2048 .f32) :
    B.view.readAt (Elt F) (Rect.unit (s := SN n) ![k.val, b.val, 0, 0] S1x1x32x2048.size h).toLoadRect ((chk B k).view.rep V)
      = rowOf V b := by
  funext x
  have e := congrFun (View.read_rep (Val := Elt F) (chk B k).view V) (ix3 b (x 2) (x 3))
  rw [read_chk] at e
  refine Eq.trans ?_ e
  exact congrArg (B.view.read (Elt F) ((chk B k).view.rep V)) (row_index k b h x)

/-- What the chunk holds after a store to one batch's part. -/
theorem row_store (V : Vec F S2x32x2048 .f32) (w : Vec F S1x1x32x2048 .f32) :
    (chk B k).view.read (Elt F) ((B.access (Rect.unit (s := SN n) ![k.val, b.val, 0, 0] S1x1x32x2048.size h)).write (Elt F)
      ((chk B k).view.rep V) w Finset.univ) = setRow V b w := by
  funext y
  rw [read_chk]
  unfold setRow
  by_cases hb : (y 0).val = b.val
  · rw [if_pos hb]
    have e : ix4 k (y 0) (y 1) (y 2) = (Rect.unit (s := SN n) ![k.val, b.val, 0, 0] S1x1x32x2048.size h).emb (ix4 (0 : Fin 1) (0 : Fin 1) (y 1) (y 2)) := by
      rw [row_index]
      have hb' : (y 0 : Fin 2) = b := Fin.ext hb
      exact congrArg (fun t : Fin 2 => ix4 k t (y 1) (y 2)) hb'
    refine (congrArg (B.view.read (Elt F) _) e).trans ?_
    exact View.read_slice_write_emb (v := B.view) _ _ _ (Finset.mem_univ _)
  · rw [if_neg hb]
    have e := congrFun (View.read_rep (Val := Elt F) (chk B k).view V) y
    rw [read_chk] at e
    rw [← e]
    refine View.read_slice_write_of_not_mem (v := B.view) _ _ _ _ ?_
    intro hm
    obtain ⟨x, -, hx⟩ := Finset.mem_map.mp hm
    rw [row_index] at hx
    exact hb (congrArg Fin.val (congrFun hx 1)).symm

end Rows

/-! ## Chunks as resources -/

/-- A chunk memref of device `c` held at share `q`, at the value `V`. -/
def chunk (M : Memref sig .tc .vmem S2x32x2048 .f32) (c : Dev nD) (q : PosShare TreeShare) (V : Vec F S2x32x2048 .f32) : sProp 𝕄 :=
  M.view.loc (c : Thread nD τ) ↦[M.view.set]{q} M.view.rep V

/-- A chunk memref of device `c` held whole, at a value not said. -/
def chunkAny (M : Memref sig .tc .vmem S2x32x2048 .f32) (c : Dev nD) : sProp 𝕄 := iprop(∃ V : Vec F S2x32x2048 .f32, chunk M c fullShare V)

instance chunk_storable (M : Memref sig .tc .vmem S2x32x2048 .f32) (c : Dev nD) (q : PosShare TreeShare) (V : Vec F S2x32x2048 .f32) :
    BI.Storable (upEmb : UEmb _ 𝕄) (chunk M c q V) := by unfold chunk; infer_instance
instance chunkAny_storable (M : Memref sig .tc .vmem S2x32x2048 .f32) (c : Dev nD) :
    BI.Storable (upEmb : UEmb _ 𝕄) (chunkAny M c) := by unfold chunkAny; infer_instance

/-- Contents that read `V` through the memref are the chunk at `V`. -/
theorem chunk_of_read (M : Memref sig .tc .vmem S2x32x2048 .f32) (c : Dev nD) (q : PosShare TreeShare) (V : Vec F S2x32x2048 .f32)
    (g : Buf (Elt F) (M.view.loc (c : Thread nD τ))) (h : M.view.read (Elt F) g = V) :
    (M.view.loc (c : Thread nD τ) ↦[M.view.set]{q} g : sProp 𝕄) ⊢ chunk M c q V :=
  pointsTo_rep_of_read (c : Thread nD τ) M g q V h

/-- A chunk of known contents is a chunk of some contents. -/
theorem chunk_toAny (M : Memref sig .tc .vmem S2x32x2048 .f32) (c : Dev nD) (V : Vec F S2x32x2048 .f32) :
    (chunk M c fullShare V : sProp 𝕄) ⊢ chunkAny M c := by
  unfold chunkAny; iintro H; iexists V; iexact H

/-- A chunk at some value is its elements at some contents. -/
theorem chunkAny_open (M : Memref sig .tc .vmem S2x32x2048 .f32) (c : Dev nD) :
    (chunkAny M c : sProp 𝕄) ⊢ iprop(∃ f, M.view.loc (c : Thread nD τ) ↦[M.view.set]{fullShare} f) := by
  unfold chunkAny chunk
  iintro ⟨%V, H⟩
  iexists M.view.rep V
  iexact H

/-- A share in two. -/
theorem chunk_split (M : Memref sig .tc .vmem S2x32x2048 .f32) (c : Dev nD) (q : PosShare TreeShare) (V : Vec F S2x32x2048 .f32) :
    (chunk M c q V : sProp 𝕄) ⊣⊢ iprop(chunk M c q.left V ∗ chunk M c q.right V) := by
  unfold chunk; exact pointsTo_share (PosShare.mem_left_op_right q)

/-! ## A stack is its chunks -/

/-- The chunks of a buffer cover it. -/
theorem chk_cover {n : ℕ} (B : Memref sig .tc .vmem (SN n) .f32) :
    Finset.univ.biUnion (fun k : Fin n => (chk B k).view.set) = B.view.set := by
  ext i
  simp only [Finset.mem_biUnion, Finset.mem_univ, true_and]
  constructor
  · rintro ⟨k, hk⟩
    obtain ⟨y, -, rfl⟩ := Finset.mem_map.mp hk
    rw [show (chk B k).view.emb y = B.view.emb (ix4 k (y 0) (y 1) (y 2)) from by
      conv_lhs => rw [eq_ix3 y]
      exact congrArg B.view.emb (chk_index k (y 0) (y 1) (y 2))]
    exact B.view.emb_mem_set _
  · intro hi
    obtain ⟨z, -, rfl⟩ := Finset.mem_map.mp hi
    refine ⟨z 0, ?_⟩
    have e : B.view.emb z = B.view.emb (ix4 (z 0) (z 1) (z 2) (z 3)) := congrArg B.view.emb (eq_ix4 z)
    rw [e]
    exact emb_mem_chk B (z 0) (z 1) (z 2) (z 3)

/-- Two chunks of a buffer share no element. -/
theorem chk_disjoint {n : ℕ} (B : Memref sig .tc .vmem (SN n) .f32) (k k' : Fin n) (hk : k ≠ k') :
    Disjoint (chk B k).view.set (chk B k').view.set := by
  rw [Finset.disjoint_left]
  intro i h1 h2
  obtain ⟨y, -, rfl⟩ := Finset.mem_map.mp h1
  obtain ⟨y', -, e⟩ := Finset.mem_map.mp h2
  have e1 : (chk B k).view.emb y = B.view.emb (ix4 k (y 0) (y 1) (y 2)) := by
    conv_lhs => rw [eq_ix3 y]
    exact congrArg B.view.emb (chk_index k (y 0) (y 1) (y 2))
  have e2 : (chk B k').view.emb y' = B.view.emb (ix4 k' (y' 0) (y' 1) (y' 2)) := by
    conv_lhs => rw [eq_ix3 y']
    exact congrArg B.view.emb (chk_index k' (y' 0) (y' 1) (y' 2))
  rw [e1, e2] at e
  exact hk (congrFun (B.view.emb.injective e) 0).symm

/-- A stack held whole gives each of its chunks, whole, at some value. -/
theorem stack_split {n : ℕ} (B : Memref sig .tc .vmem (SN n) .f32) (c : Dev nD) (f : Buf (Elt F) (B.view.loc (c : Thread nD τ))) :
    (B.view.loc (c : Thread nD τ) ↦[B.view.set]{fullShare} f : sProp 𝕄) ⊢ bigSep Finset.univ fun k : Fin n => chunkAny (chk B k) c := by
  rw [← chk_cover B, pointsTo_biUnion (ℓ := B.view.loc (c : Thread nD τ)) Finset.univ (fun k : Fin n => (chk B k).view.set)
    (fun k _ k' _ hk => chk_disjoint B k k' hk)]
  refine bigSep_mono fun k _ => ?_
  exact (chunk_of_read (chk B k) c fullShare _ f rfl).trans (chunk_toAny _ _ _)

/-- The chunks of a stack, each whole at some value, are the stack whole at some contents. -/
theorem stack_join {n : ℕ} (B : Memref sig .tc .vmem (SN n) .f32) (c : Dev nD) (f₀ : Buf (Elt F) (B.view.loc (c : Thread nD τ))) :
    (bigSep Finset.univ fun k : Fin n => (chunkAny (chk B k) c : sProp 𝕄))
      ⊢ iprop(∃ f, B.view.loc (c : Thread nD τ) ↦[B.view.set]{fullShare} f) := by
  refine BIBase.Entails.trans (bigSep_mono (Ψ := fun k : Fin n => iprop(∃ f, B.view.loc (c : Thread nD τ) ↦[(chk B k).view.set]{fullShare} f))
    fun k _ => ?_) (Ring.pointsTo_sub_blocks_join_exists (ℓ := B.view.loc (c : Thread nD τ)) (fun k : Fin n => (chk B k).view.set)
      (fun k k' hk => chk_disjoint B k k' hk) _ (chk_cover B) f₀)
  exact chunkAny_open (chk B k) c

end Cert.KernelIdeal.Scatter

end
-- ==== Proof.Events.lean ====
/-
  The order of the kernel's steps: after the barrier, every device runs the same 96 steps in the same order, and `time`
  numbers them. What a device holds before step `t` is a function of which steps come before `t`.
-/
module

public import proofs.«01_k».proof.Proof.Links

@[expose] public section

set_option maxRecDepth 16384

namespace Cert.KernelIdeal.Scatter

open Idealize.ShloMosaic Idealize.ShloMosaic.TcCoe

/-- A step: `X k b` stores batch row `b` of send chunk `k`, `S l` starts the copy `l`, `R l` awaits its arrival, `B l` awaits
    the return of its source, `O q b` stores the own product's quarter `q`, `A d k b` adds in received chunk `k` of
    direction `d`. -/
inductive Ev where
  | X (k : Fin 4) (b : Fin 2)
  | S (l : Link)
  | R (l : Link)
  | B (l : Link)
  | O (q : Fin 4) (b : Fin 2)
  | A (d k : Fin 4) (b : Fin 2)
deriving DecidableEq, Fintype

/-- When a copy starts. -/
def timeS : Link → ℕ
  | .x k => 3 * k.val + 2
  | .yd k => 13 + 5 * k.val
  | .zd k => 14 + 5 * k.val
  | .yf k => 33 + 2 * k.val
  | .zf k => 37 + 2 * k.val

/-- When its arrival is awaited. -/
def timeR : Link → ℕ
  | .x k => 12 + 5 * k.val
  | .yd k => if k.val < 2 then 50 + k.val else 32 + 2 * k.val
  | .zd k => if k.val < 2 then 32 + 2 * k.val else 46 + k.val
  | .yf k => 68 + 3 * k.val
  | .zf k => 74 + 3 * k.val

/-- When the return of its source is awaited. -/
def timeB : Link → ℕ
  | .x k => 80 + k.val
  | .yd k => 84 + k.val
  | .zd k => 88 + k.val
  | .yf k => 92 + k.val
  | .zf k => 94 + k.val

/-- When a received chunk's row is added in. -/
def timeA (d k b : ℕ) : ℕ := match d with
  | 0 => 40 + 2 * k + b
  | 1 => 52 + 2 * k + b
  | 2 => 60 + 2 * k + b
  | _ => 69 + 3 * k + b

/-- The number of a step. -/
def time : Ev → ℕ
  | .X k b => 3 * k.val + b.val
  | .S l => timeS l
  | .R l => timeR l
  | .B l => timeB l
  | .O q b => 15 + 5 * q.val + b.val
  | .A d k b => timeA d.val k.val b.val

/-- The steps in order. -/
def evs : List Ev := [
  .X 0 0, .X 0 1, .S (.x 0), .X 1 0, .X 1 1, .S (.x 1), .X 2 0, .X 2 1, .S (.x 2), .X 3 0, .X 3 1, .S (.x 3),
  .R (.x 0), .S (.yd 0), .S (.zd 0), .O 0 0, .O 0 1, .R (.x 1), .S (.yd 1), .S (.zd 1), .O 1 0, .O 1 1,
  .R (.x 2), .S (.yd 2), .S (.zd 2), .O 2 0, .O 2 1, .R (.x 3), .S (.yd 3), .S (.zd 3), .O 3 0, .O 3 1,
  .R (.zd 0), .S (.yf 0), .R (.zd 1), .S (.yf 1), .R (.yd 2), .S (.zf 0), .R (.yd 3), .S (.zf 1),
  .A 0 0 0, .A 0 0 1, .A 0 1 0, .A 0 1 1, .A 0 2 0, .A 0 2 1, .A 0 3 0, .A 0 3 1,
  .R (.zd 2), .R (.zd 3), .R (.yd 0), .R (.yd 1),
  .A 1 0 0, .A 1 0 1, .A 1 1 0, .A 1 1 1, .A 1 2 0, .A 1 2 1, .A 1 3 0, .A 1 3 1,
  .A 2 0 0, .A 2 0 1, .A 2 1 0, .A 2 1 1, .A 2 2 0, .A 2 2 1, .A 2 3 0, .A 2 3 1,
  .R (.yf 0), .A 3 0 0, .A 3 0 1, .R (.yf 1), .A 3 1 0, .A 3 1 1,
  .R (.zf 0), .A 3 2 0, .A 3 2 1, .R (.zf 1), .A 3 3 0, .A 3 3 1,
  .B (.x 0), .B (.x 1), .B (.x 2), .B (.x 3), .B (.yd 0), .B (.yd 1), .B (.yd 2), .B (.yd 3),
  .B (.zd 0), .B (.zd 1), .B (.zd 2), .B (.zd 3), .B (.yf 0), .B (.yf 1), .B (.zf 0), .B (.zf 1)]

/-- A step stands in the list at its time. -/
theorem evs_time : ∀ e : Ev, evs[time e]? = some e := by
  intro e
  cases e with
  | X k b => revert k b; decide
  | S l => revert l; decide
  | R l => revert l; decide
  | B l => revert l; decide
  | O q b => revert q b; decide
  | A d k b => revert d k b; decide

/-- Different steps have different times. -/
theorem time_inj {e e' : Ev} (h : time e = time e') : e = e' := by
  have := (evs_time e).symm.trans ((congrArg (fun n => evs[n]?) h).trans (evs_time e'))
  exact Option.some.inj this

/-- No step but `e` comes between `time e` and the next. -/
theorem le_next {e e' : Ev} (h : e' ≠ e) : (time e + 1 ≤ time e') ↔ (time e ≤ time e') := by
  have : time e' ≠ time e := fun hh => h (time_inj hh)
  omega

/-- There are 96 steps. -/
theorem time_lt : ∀ e : Ev, time e < 96 := by
  intro e
  cases e with
  | X k b => revert k b; decide
  | S l => revert l; decide
  | R l => revert l; decide
  | B l => revert l; decide
  | O q b => revert q b; decide
  | A d k b => revert d k b; decide

/-- The copy whose arrival makes a copy's source ready, if it forwards what another brought. -/
def par : Link → Option Link
  | .x _ => none
  | .yd k => some (.x k)
  | .zd k => some (.x k)
  | .yf k => some (.zd (Link.lo k))
  | .zf k => some (.yd (Link.up k))

/-- The copies not started before step `t`, in order. -/
def rem (t : ℕ) : List Link := Link.all.filter fun l => decide (t ≤ time (.S l))

/-- Starting a copy takes it off the copies still to start. -/
theorem rem_send : ∀ l : Link, rem (time (.S l)) = l :: rem (time (.S l) + 1) := by decide
/-- No other step changes the copies still to start. -/
theorem rem_other {e : Ev} (h : ∀ l, e ≠ .S l) : rem (time e + 1) = rem (time e) := by
  unfold rem
  refine List.filter_congr fun l _ => ?_
  rw [decide_eq_decide]
  exact le_next (fun hh => h l hh.symm)
/-- A device that awaits an arrival owes only later levels. -/
theorem rem_level : ∀ l : Link, ∀ l' ∈ rem (time (.R l)), l.level < l'.level := by decide
/-- When the departures are awaited no copy is left to start. -/
theorem rem_back : ∀ l : Link, rem (time (.B l)) = [] := by decide
/-- At the start every copy is still to start. -/
theorem rem_zero : rem 0 = Link.all := by decide

/-- A copy starts before its departure is awaited. -/
theorem S_lt_B : ∀ l : Link, time (.S l) < time (.B l) := by decide
/-- A forwarded copy starts after the copy it forwards has landed. -/
theorem R_lt_S : ∀ l p : Link, par l = some p → time (.R p) < time (.S l) := by decide

end Cert.KernelIdeal.Scatter
-- ==== Proof.Contents.lean ====
/-
  What each landing and each block of the result holds, as functions of the devices' operands.
-/
module

public import proofs.«01_k».proof.Proof.Chunk
public import proofs.«01_k».proof.Proof.Events

@[expose] public section

set_option maxRecDepth 16384

noncomputable section

namespace Cert.KernelIdeal.Scatter

open Idealize.ShloMosaic Idealize.ShloMosaic.TcCoe
open Cert.KernelIdeal.Gen
open Idealize.ShloMosaic.ValueIdx
open Idealize.ShloMosaic.VecWindow (window put)

variable {F : FTy → Type} [FloatOps F]

/-- The operands of all devices: each one's rows and its weights. -/
structure Inp (F : FTy → Type) where
  /-- The left operand of each device. -/
  O : Dev nD → Vec F S2x1024x1024 .f32
  /-- The right operand of each device. -/
  W : Dev nD → Vec F S1024x2048 .f32

variable (I : Inp F) (c : Dev nD)

/-! ## What is sent -/

/-- The rows to send lie inside the operand. -/
theorem inb_send (c : Dev nD) (k : Fin 4) (b : Fin 2) :
    ∀ a, (![b.val, oth c + 128 * qt c + 32 * k.val, 0] : Fin 3 → ℕ) a + S1x32x1024.size a ≤ S2x1024x1024.size a := by
  have h1 := oth_le c
  have h2 := qt_lt c
  intro a
  match a with
  | ⟨0, _⟩ => show b.val + 1 ≤ 2; omega
  | ⟨1, _⟩ => show oth c + 128 * qt c + 32 * k.val + 32 ≤ 1024; omega
  | ⟨2, _⟩ => show 0 + 1024 ≤ 1024; omega

/-- The rows that device `c` multiplies for the other half's chunk `k`, of batch `b`. -/
def sentWin (k : Fin 4) (b : Fin 2) : Vec F S1x32x1024 .f32 :=
  window (I.O c) ![b.val, oth c + 128 * qt c + 32 * k.val, 0] S1x32x1024.size (inb_send c k b)
/-- Their product with its weights. -/
def sentRow (k : Fin 4) (b : Fin 2) : Vec F S1x1x32x2048 .f32 := k0_pay1 (sentWin I c k b) (I.W c)
/-- Chunk `k` that device `c` sends across the first axis: both batch rows. -/
def VX (k : Fin 4) : Vec F S2x32x2048 .f32 :=
  fun y => sentRow I c k (y 0) (ix4 (0 : Fin 1) (0 : Fin 1) (y 1) (y 2))

/-- Both batches' parts stored make the whole chunk. -/
theorem setRow_both (V : Vec F S2x32x2048 .f32) (k : Fin 4) :
    setRow (setRow V 0 (sentRow I c k 0)) 1 (sentRow I c k 1) = VX I c k := by
  funext y
  obtain ⟨b, r, n, rfl⟩ : ∃ (b : Fin 2) (r : Fin 32) (n : Fin 2048), y = ix3 b r n := ⟨y 0, y 1, y 2, eq_ix3 y⟩
  show (if b.val = 1 then sentRow I c k 1 (ix4 (0 : Fin 1) (0 : Fin 1) r n)
    else if b.val = 0 then sentRow I c k 0 (ix4 (0 : Fin 1) (0 : Fin 1) r n) else V (ix3 b r n)) = sentRow I c k b (ix4 (0 : Fin 1) (0 : Fin 1) r n)
  by_cases h : b.val = 1
  · obtain rfl : b = 1 := Fin.ext h
    rfl
  · obtain rfl : b = 0 := Fin.ext (show b.val = 0 by omega)
    rfl

/-- What the copy `l` that device `c` starts carries. -/
def sent (l : Link) (c : Dev nD) : Vec F S2x32x2048 .f32 := match l with
  | .x k => VX I c k
  | .yd k => VX I (xn c) k
  | .zd k => VX I (xn c) k
  | .yf k => VX I (xn (zn c)) (Link.lo k)
  | .zf k => VX I (xn (yn c)) (Link.up k)
/-- What the copy `l` leaves on device `c`. -/
def land (l : Link) (c : Dev nD) : Vec F S2x32x2048 .f32 := sent I l (l.nb c)

/-- What a copy leaves on its receiver is what was sent. -/
theorem land_nb (l : Link) : land I l (l.nb c) = sent I l c := by unfold land; rw [Link.nb_nb]

/-- A forwarded copy carries what the copy before it left. -/
theorem sent_par (l p : Link) (h : par l = some p) : sent I l c = land I p c := by
  cases l <;> cases h <;> rfl

/-! ## The result -/

/-- The device whose quarter direction `d` fills. -/
def dd (d : Fin 4) (c : Dev nD) : Dev nD := match d with
  | 0 => c
  | 1 => yn c
  | 2 => zn c
  | 3 => yn (zn c)
/-- The direction that fills quarter `q`. -/
def dirOf (c : Dev nD) (q : Fin 4) : Fin 4 :=
  if qt c = q.val then 0 else if qt (yn c) = q.val then 1 else if qt (zn c) = q.val then 2 else 3

/-- A direction fills the quarter of its device. -/
theorem dirOf_dd : ∀ (c : Dev nD) (d q : Fin 4), qt (dd d c) = q.val → dirOf c q = d := by decide
/-- The quarter that the chosen direction fills is the one asked for. -/
theorem dd_dirOf : ∀ (c : Dev nD) (q : Fin 4), qt (dd (dirOf c q) c) = q.val := by decide

/-- The kept rows lie inside the operand. -/
theorem inb_own (c : Dev nD) (q : Fin 4) (b : Fin 2) :
    ∀ a, (![b.val, own c + 128 * q.val, 0] : Fin 3 → ℕ) a + S1x128x1024.size a ≤ S2x1024x1024.size a := by
  have h1 := own_le c
  intro a
  match a with
  | ⟨0, _⟩ => show b.val + 1 ≤ 2; omega
  | ⟨1, _⟩ => show own c + 128 * q.val + 128 ≤ 1024; omega
  | ⟨2, _⟩ => show 0 + 1024 ≤ 1024; omega

/-- The rows of quarter `q` that device `c` keeps, of batch `b`. -/
def ownWin (q : Fin 4) (b : Fin 2) : Vec F S1x128x1024 .f32 :=
  window (I.O c) ![b.val, own c + 128 * q.val, 0] S1x128x1024.size (inb_own c q b)
/-- Their product with its weights. -/
def ownRow (q : Fin 4) (b : Fin 2) : Vec F S1x128x2048 .f32 := k0_pay11 (ownWin I c q b) (I.W c)

/-- The quarter of a row, its chunk in the quarter, its row in the quarter and in the chunk. -/
def qOf (s : Fin 512) : Fin 4 := ⟨s.val / 128, by omega⟩
def kOf (s : Fin 512) : Fin 4 := ⟨(s.val % 128) / 32, by omega⟩
def rOf (s : Fin 512) : Fin 128 := ⟨s.val % 128, by omega⟩
def wOf (s : Fin 512) : Fin 32 := ⟨s.val % 32, by omega⟩

/-- The device's own product, at an index of the result. -/
def ownAt (b : Fin 2) (s : Fin 512) (n : Fin 2048) : Elt F .f32 := ownRow I c (qOf s) b (ix3 (0 : Fin 1) (rOf s) n)
/-- The received product, at an index of the result. -/
def pieceAt (b : Fin 2) (s : Fin 512) (n : Fin 2048) : Elt F .f32 :=
  VX I (xn (dd (dirOf c (qOf s)) c)) (kOf s) (ix3 b (wOf s) n)
/-- The scalar sum. -/
def addS (x y : Elt F .f32) : Elt F .f32 := FloatOps.addf (φ := .f32) x y

/-- One element of the result before step `t`, over its first contents. -/
def outEl (f₀ : Vec F S2x512x2048 .f32) (t : ℕ) (b : Fin 2) (s : Fin 512) (n : Fin 2048) : Elt F .f32 :=
  if t ≤ time (.O (qOf s) b) then f₀ (ix3 b s n)
  else if t ≤ time (.A (dirOf c (qOf s)) (kOf s) b) then ownAt I c b s n
  else addS (ownAt I c b s n) (pieceAt I c b s n)
/-- The result's contents before step `t`. -/
def outAt (f₀ : Vec F S2x512x2048 .f32) (t : ℕ) : Vec F S2x512x2048 .f32 := fun y => outEl I c f₀ t (y 0) (y 1) (y 2)

/-- Every own product is stored before any addition. -/
theorem O_lt_A : ∀ (q q' : Fin 4) (b : Fin 2) (d k : Fin 4) (b' : Fin 2), time (.O q b) + 1 ≤ time (.A d k b') := by decide

/-- An element that step `e` does not touch. -/
theorem outEl_other (f₀ : Vec F S2x512x2048 .f32) {e : Ev} (b : Fin 2) (s : Fin 512) (n : Fin 2048)
    (hO : .O (qOf s) b ≠ e) (hA : .A (dirOf c (qOf s)) (kOf s) b ≠ e) :
    outEl I c f₀ (time e + 1) b s n = outEl I c f₀ (time e) b s n := by
  unfold outEl
  simp only [le_next hO, le_next hA]

/-- A step that is neither an own store nor an addition leaves the result. -/
theorem outAt_other (f₀ : Vec F S2x512x2048 .f32) {e : Ev} (hO : ∀ q b, e ≠ .O q b) (hA : ∀ d k b, e ≠ .A d k b) :
    outAt I c f₀ (time e + 1) = outAt I c f₀ (time e) :=
  funext fun y => outEl_other I c f₀ (y 0) (y 1) (y 2) (hO _ _).symm (hA _ _ _).symm

/-- The result after an own product is stored. -/
theorem outAt_own (f₀ : Vec F S2x512x2048 .f32) (q : Fin 4) (b : Fin 2) :
    put (outAt I c f₀ (time (.O q b))) ![b.val, 128 * q.val, 0] S1x128x2048.size (ownRow I c q b)
      = outAt I c f₀ (time (.O q b) + 1) := by
  funext y
  obtain ⟨b', s, n, rfl⟩ : ∃ (b' : Fin 2) (s : Fin 512) (n : Fin 2048), y = ix3 b' s n := ⟨y 0, y 1, y 2, eq_ix3 y⟩
  unfold put
  split
  · next h =>
    have h0 : b.val ≤ b'.val ∧ b'.val < b.val + 1 := h 0
    have h1 : 128 * q.val ≤ s.val ∧ s.val < 128 * q.val + 128 := h 1
    obtain rfl : b' = b := Fin.ext (by omega)
    have hq : qOf s = q := Fin.ext (show s.val / 128 = q.val by omega)
    show _ = outEl I c f₀ _ b' s n
    unfold outEl
    rw [hq, if_neg (by omega), if_pos (O_lt_A q q b' _ _ _)]
    unfold ownAt
    rw [hq]
    refine congrArg (ownRow I c q b') ?_
    funext a
    apply Fin.ext
    match a with
    | ⟨0, _⟩ => show b'.val - b'.val = 0; omega
    | ⟨1, _⟩ => show s.val - 128 * q.val = s.val % 128; omega
    | ⟨2, _⟩ => show n.val - 0 = n.val; omega
  · next h =>
    refine (outEl_other I c f₀ b' s n ?_ (by nofun)).symm
    intro he
    injection he with e1 e2
    apply h
    intro a
    have e1' : s.val / 128 = q.val := congrArg Fin.val e1
    have e2' : b'.val = b.val := congrArg Fin.val e2
    match a with
    | ⟨0, _⟩ => show b.val ≤ b'.val ∧ b'.val < b.val + 1; omega
    | ⟨1, _⟩ => show 128 * q.val ≤ s.val ∧ s.val < 128 * q.val + 128; omega
    | ⟨2, _⟩ => show 0 ≤ n.val ∧ n.val < 0 + 2048; omega

/-- The rows that an addition changes lie inside the result. -/
theorem inb_add (d : Fin 4) (k : Fin 4) (b : Fin 2) :
    ∀ a, (![b.val, 128 * qt (dd d c) + 32 * k.val, 0] : Fin 3 → ℕ) a + S1x32x2048.size a ≤ S2x512x2048.size a := by
  have h2 := qt_lt (dd d c)
  intro a
  match a with
  | ⟨0, _⟩ => show b.val + 1 ≤ 2; omega
  | ⟨1, _⟩ => show 128 * qt (dd d c) + 32 * k.val + 32 ≤ 512; omega
  | ⟨2, _⟩ => show 0 + 2048 ≤ 2048; omega

/-- The sum that an addition stores, at an index. -/
theorem pay21_apply (w : Vec F S1x32x2048 .f32) (v : Vec F S1x1x32x2048 .f32) (r : Fin 32) (n : Fin 2048) :
    k0_pay21 w v (ix3 (0 : Fin 1) r n) = addS (w (ix3 (0 : Fin 1) r n)) (v (ix4 (0 : Fin 1) (0 : Fin 1) r n)) := by
  unfold k0_pay21
  refine (shapeCast_ab_1ab_apply _ shapeCasts_S32x2048_S1x32x2048 0 r n).trans ?_
  refine congr (congrArg addS ?_) ?_
  · exact shapeCast_1ab_ab_apply w shapeCasts_S1x32x2048_S32x2048 r n
  · exact congrArg v (reshapeEquiv_ix2_11ab _ r n)

/-- The window that the addition reads. -/
def addWin (f₀ : Vec F S2x512x2048 .f32) (d k : Fin 4) (b : Fin 2) : Vec F S1x32x2048 .f32 :=
  window (outAt I c f₀ (time (.A d k b))) ![b.val, 128 * qt (dd d c) + 32 * k.val, 0] S1x32x2048.size (inb_add c d k b)

/-- The result after an addition. -/
theorem outAt_add (f₀ : Vec F S2x512x2048 .f32) (d k : Fin 4) (b : Fin 2) :
    put (outAt I c f₀ (time (.A d k b))) ![b.val, 128 * qt (dd d c) + 32 * k.val, 0] S1x32x2048.size
        (k0_pay21 (addWin I c f₀ d k b) (rowOf (VX I (xn (dd d c)) k) b))
      = outAt I c f₀ (time (.A d k b) + 1) := by
  have hd := qt_lt (dd d c)
  funext y
  obtain ⟨b', s, n, rfl⟩ : ∃ (b' : Fin 2) (s : Fin 512) (n : Fin 2048), y = ix3 b' s n := ⟨y 0, y 1, y 2, eq_ix3 y⟩
  unfold put
  split
  · next h =>
    have h0 : b.val ≤ b'.val ∧ b'.val < b.val + 1 := h 0
    have h1 : 128 * qt (dd d c) + 32 * k.val ≤ s.val ∧ s.val < 128 * qt (dd d c) + 32 * k.val + 32 := h 1
    obtain rfl : b' = b := Fin.ext (by omega)
    have hq : dirOf c (qOf s) = d := dirOf_dd c d _ (show qt (dd d c) = s.val / 128 by omega)
    have hk : kOf s = k := Fin.ext (show (s.val % 128) / 32 = k.val by omega)
    have e : Rect.unitLocal (s := S2x512x2048) (off := ![b'.val, 128 * qt (dd d c) + 32 * k.val, 0]) (size := S1x32x2048.size) (ix3 b' s n) h
        = ix3 (0 : Fin 1) (wOf s) n := by
      funext a
      apply Fin.ext
      match a with
      | ⟨0, _⟩ => show b'.val - b'.val = 0; omega
      | ⟨1, _⟩ => show s.val - (128 * qt (dd d c) + 32 * k.val) = s.val % 32; omega
      | ⟨2, _⟩ => show n.val - 0 = n.val; omega
    refine (congrArg (k0_pay21 (addWin I c f₀ d k b') (rowOf (VX I (xn (dd d c)) k) b')) e).trans ?_
    refine (pay21_apply _ _ _ _).trans ?_
    have e' : addWin I c f₀ d k b' (ix3 (0 : Fin 1) (wOf s) n) = outEl I c f₀ (time (.A d k b')) b' s n := by
      refine congrArg (outAt I c f₀ (time (.A d k b'))) (a₂ := ix3 b' s n) ?_
      funext a
      apply Fin.ext
      match a with
      | ⟨0, _⟩ => show b'.val + 1 * 0 = b'.val; omega
      | ⟨1, _⟩ => show 128 * qt (dd d c) + 32 * k.val + 1 * (s.val % 32) = s.val; omega
      | ⟨2, _⟩ => show 0 + 1 * n.val = n.val; omega
    rw [e']
    have hO := O_lt_A (qOf s) (qOf s) b' d k b'
    show _ = outEl I c f₀ _ b' s n
    unfold outEl
    rw [hq, hk, if_neg (by omega), if_pos le_rfl, if_neg (by omega), if_neg (by omega)]
    unfold pieceAt
    rw [hq, hk]
    rfl
  · next h =>
    refine (outEl_other I c f₀ b' s n (by nofun) ?_).symm
    intro he
    injection he with e1 e2 e3
    apply h
    intro a
    have e1' : qt (dd d c) = s.val / 128 := by have := dd_dirOf c (qOf s); rw [e1] at this; exact this
    have e2' : (s.val % 128) / 32 = k.val := congrArg Fin.val e2
    have e3' : b'.val = b.val := congrArg Fin.val e3
    match a with
    | ⟨0, _⟩ => show b.val ≤ b'.val ∧ b'.val < b.val + 1; omega
    | ⟨1, _⟩ => show 128 * qt (dd d c) + 32 * k.val ≤ s.val ∧ s.val < 128 * qt (dd d c) + 32 * k.val + 32; omega
    | ⟨2, _⟩ => show 0 ≤ n.val ∧ n.val < 0 + 2048; omega

/-- The finished result. -/
def outV : Vec F S2x512x2048 .f32 := fun y => addS (ownAt I c (y 0) (y 1) (y 2)) (pieceAt I c (y 0) (y 1) (y 2))

/-- After the last step the result holds its final contents. -/
theorem outAt_end (f₀ : Vec F S2x512x2048 .f32) : outAt I c f₀ 96 = outV I c := by
  funext y
  show outEl I c f₀ 96 (y 0) (y 1) (y 2) = _
  unfold outEl outV
  have h1 := time_lt (.O (qOf (y 1)) (y 0))
  have h2 := time_lt (.A (dirOf c (qOf (y 1))) (kOf (y 1)) (y 0))
  rw [if_neg (by omega), if_neg (by omega)]

/-- Before the first step the result holds its first contents. -/
theorem outAt_zero (f₀ : Vec F S2x512x2048 .f32) : outAt I c f₀ 0 = f₀ := by
  funext y
  show outEl I c f₀ 0 (y 0) (y 1) (y 2) = _
  unfold outEl
  rw [if_pos (Nat.zero_le _)]
  exact congrArg f₀ (eq_ix3 y).symm

end Cert.KernelIdeal.Scatter

end
-- ==== Proof.Sched.lean ====
/-
  The protocol: one round on every semaphore. A barrier unit hands over the payer's landing chunks; a copy pays its
  receive semaphore with the landed chunk at what it carries and its send semaphore with the share it read.
-/
module

public import proofs.«01_k».proof.Proof.Contents
public import Idealize.ShloMosaic.Lib.Pipeline.Launch

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The pipeline's and the kernel's parts of the ghost state. -/
abbrev EP : Emb (UR sig nD τ) (MT nD τ sig Unit (Elt F) ℕ UU ℕ) := embL
abbrev ER : Emb (URounds (GSem nD τ sig) (Fin 3)) (MT nD τ sig Unit (Elt F) ℕ UU ℕ) := embR

variable (I : Inp F)

/-! ## Cells, shares, amounts -/

abbrev barCell (c : Dev nD) : GSem nD τ sig := ((c : Thread nD τ), .reg barrier0)
abbrev sCell (l : Link) (c : Dev nD) : GSem nD τ sig := ((c : Thread nD τ), .dma l.sendS)
abbrev rCell (l : Link) (c : Dev nD) : GSem nD τ sig := ((c : Thread nD τ), .dma l.recvS)

/-- The axis a copy goes along. -/
def Link.dir : Link → Fin 3
  | .x _ => 0
  | .yd _ => 1
  | .zd _ => 2
  | .yf _ => 1
  | .zf _ => 2
/-- The neighbour along an axis. -/
def nbD (d : Fin 3) (c : Dev nD) : Dev nD := match d with
  | 0 => xn c
  | 1 => yn c
  | 2 => zn c
/-- A copy's receiver is the neighbour in the copy's direction. -/
theorem nb_dir (l : Link) (c : Dev nD) : l.nb c = nbD l.dir c := by cases l <;> rfl
/-- The neighbour's neighbour in one direction is the device. -/
theorem nbD_nbD (d : Fin 3) (c : Dev nD) : nbD d (nbD d c) = c := by
  match d with
  | 0 => exact xn_xn c
  | 1 => exact yn_yn c
  | 2 => exact zn_zn c

/-- The share of its source that a copy reads. -/
def srcQ : Link → PosShare TreeShare
  | .x _ => fullShare
  | .yd _ => fullShare.left
  | .zd _ => fullShare.right.left
  | .yf _ => fullShare.left
  | .zf _ => fullShare.left
/-- The share of a landed chunk that is not lent to later copies. -/
def keepQ : Link → PosShare TreeShare
  | .x _ => fullShare.right.right
  | .yd k => if k.val < 2 then fullShare else fullShare.right
  | .zd k => if k.val < 2 then fullShare.right else fullShare
  | .yf _ => fullShare
  | .zf _ => fullShare

/-- The units one copy is worth. -/
abbrev N : ℕ := (chk xsend 0).view.dmaCredit
/-- A copy moves something. -/
theorem N_pos : 0 < N := View.dmaCredit_pos _ (by decide)
/-- Every landing raises its semaphore by the same amount. -/
theorem dst_amount (l : Link) : l.dstM.view.amount (.dma l.recvS : SemLoc sig) = N := by cases l <;> rfl

/-- The link and side a semaphore belongs to. -/
def linkOf (s : SemLoc sig) : Option (Link × Fin 2) := by
  classical exact if h : ∃ p, Link.sem p = s then some h.choose else none
/-- A copy and its end are read back from their semaphore. -/
theorem linkOf_sem (p : Link × Fin 2) : linkOf (Link.sem p) = some p := by
  unfold linkOf
  have h : ∃ q, Link.sem q = Link.sem p := ⟨p, rfl⟩
  rw [dif_pos h]
  exact congrArg some (Link.sem_inj h.choose_spec)
/-- The copy that a send semaphore belongs to. -/
theorem linkOf_send (l : Link) : linkOf (.dma l.sendS) = some (l, 0) := linkOf_sem (l, 0)
/-- The copy that a receive semaphore belongs to. -/
theorem linkOf_recv (l : Link) : linkOf (.dma l.recvS) = some (l, 1) := linkOf_sem (l, 1)

/-- No copy's semaphore is the barrier. -/
theorem bar_ne (s : DmaSem sig) : (SemLoc.dma s : SemLoc sig) ≠ .reg barrier0 := fun h => by cases h

/-! ## The schedule -/

/-- What the neighbour along `d` hands to `c` with its barrier unit: its landing chunks that `c` writes. -/
def barPay (d : Fin 3) (c : Dev nD) : sProp 𝕄 :=
  bigSep (Finset.univ.filter fun l : Link => l.dir = d) fun l =>
    iprop(chunkAny l.dstM (nbD d c) ∗ reached ER (rCell l (nbD d c)) 0)

/-- What a copy's semaphore is paid with. -/
def linkPay (c : Dev nD) : Link × Fin 2 → sProp 𝕄
  | (l, 0) => chunk l.srcM c (srcQ l) (sent I l c)
  | (l, 1) => chunk l.dstM c fullShare (land I l c)

/-- Round 0 only: three units at the barrier, one copy on every other semaphore of the kernel. -/
def Rd : Rounds.Schedule (GSem nD τ sig) (Fin 3) 𝕄 where
  duties g r := if r = 0 ∧ g.1.2 = .tc then
      (if g.2 = .reg barrier0 then Finset.univ else if (linkOf g.2).isSome then {0} else ∅) else ∅
  unitless _ := False
  amount g _ _ := if g.2 = .reg barrier0 then 1 else N
  payload g _ d := if g.2 = .reg barrier0 then barPay d g.1.1 else
    match linkOf g.2 with
    | some p => linkPay I g.1.1 p
    | none => iprop(emp)
  amount_pos g _ _ _ := by
    by_cases h : g.2 = .reg barrier0
    · rw [if_pos h]; exact Nat.one_pos
    · rw [if_neg h]; exact N_pos

instance barPay_storable (d : Fin 3) (c : Dev nD) : BI.Storable (upEmb : UEmb _ 𝕄) (barPay d c) := by
  unfold barPay; infer_instance
instance linkPay_storable (c : Dev nD) (p : Link × Fin 2) : BI.Storable (upEmb : UEmb _ 𝕄) (linkPay I c p) := by
  obtain ⟨l, s⟩ := p
  match s with
  | 0 => unfold linkPay; infer_instance
  | 1 => unfold linkPay; infer_instance

instance Rd_payload_storable (g : GSem nD τ sig) (r : ℕ) (d : Fin 3) : BI.Storable (upEmb : UEmb _ 𝕄) ((Rd I).payload g r d) := by
  show BI.Storable upEmb (if g.2 = .reg barrier0 then barPay d g.1.1 else
    match linkOf g.2 with
    | some p => linkPay I g.1.1 p
    | none => iprop(emp))
  split
  · infer_instance
  · split <;> infer_instance

section Sched

variable (c : Dev nD) (l : Link)

/-- The barrier's one round has a signal from each of three directions. -/
theorem duties_bar : (Rd I).duties (barCell c) 0 = Finset.univ := by
  dsimp only [Rd]; rw [if_pos ⟨rfl, rfl⟩, if_pos rfl]
/-- A send semaphore's one round has one arrival. -/
theorem duties_send : (Rd I).duties (sCell l c) 0 = {0} := by
  dsimp only [Rd]; rw [if_pos ⟨rfl, rfl⟩, if_neg (bar_ne _), linkOf_send]; rfl
/-- A receive semaphore's one round has one arrival. -/
theorem duties_recv : (Rd I).duties (rCell l c) 0 = {0} := by
  dsimp only [Rd]; rw [if_pos ⟨rfl, rfl⟩, if_neg (bar_ne _), linkOf_recv]; rfl
/-- No semaphore has a second round. -/
theorem duties_later (g : GSem nD τ sig) : ∀ r, 1 ≤ r → (Rd I).duties g r = ∅ :=
  fun r hr => by dsimp only [Rd]; rw [if_neg (fun h => by omega)]

/-- Each signal raises the barrier by one. -/
theorem amount_bar (d : Fin 3) : (Rd I).amount (barCell c) 0 d = 1 := by dsimp only [Rd]; exact if_pos rfl
/-- A departure raises its semaphore by a copy's amount. -/
theorem amount_send (d : Fin 3) : (Rd I).amount (sCell l c) 0 d = N := by dsimp only [Rd]; exact if_neg (bar_ne _)
/-- A landing raises its semaphore by a copy's amount. -/
theorem amount_recv (d : Fin 3) : (Rd I).amount (rCell l c) 0 d = N := by dsimp only [Rd]; exact if_neg (bar_ne _)

/-- The barrier waits for three. -/
theorem expect_bar : (Rd I).expect (barCell c) 0 = 3 := by
  unfold Schedule.expect Schedule.amountOf
  rw [duties_bar, Finset.sum_congr rfl fun d _ => amount_bar I c d]
  rfl
/-- A send semaphore's wait is for one copy's amount. -/
theorem expect_send : (Rd I).expect (sCell l c) 0 = N := by
  unfold Schedule.expect Schedule.amountOf; rw [duties_send, Finset.sum_singleton, amount_send]
/-- A receive semaphore's wait is for one copy's amount. -/
theorem expect_recv : (Rd I).expect (rCell l c) 0 = N := by
  unfold Schedule.expect Schedule.amountOf; rw [duties_recv, Finset.sum_singleton, amount_recv]

/-- What a signal of the barrier brings: the sender's landing chunks in that direction. -/
theorem payload_bar (d : Fin 3) : (Rd I).payload (barCell c) 0 d = barPay d c := by dsimp only [Rd]; exact if_pos rfl
/-- What a departure gives back: the source chunk, as it was sent. -/
theorem payload_send (d : Fin 3) : (Rd I).payload (sCell l c) 0 d = chunk l.srcM c (srcQ l) (sent I l c) := by
  dsimp only [Rd]; rw [if_neg (bar_ne _), linkOf_send]; rfl
/-- What a landing brings: the destination chunk with the sent contents. -/
theorem payload_recv (d : Fin 3) : (Rd I).payload (rCell l c) 0 d = chunk l.dstM c fullShare (land I l c) := by
  dsimp only [Rd]; rw [if_neg (bar_ne _), linkOf_recv]; rfl

/-- All that a wait for a departure gives. -/
theorem rest_send : bigSep ((Rd I).duties (sCell l c) 0 \ ∅) (fun d => (Rd I).payload (sCell l c) 0 d)
    = chunk l.srcM c (srcQ l) (sent I l c) := by
  rw [Finset.sdiff_empty, duties_send, bigSep_singleton, payload_send]
/-- All that a wait for a landing gives. -/
theorem rest_recv : bigSep ((Rd I).duties (rCell l c) 0 \ ∅) (fun d => (Rd I).payload (rCell l c) 0 d)
    = chunk l.dstM c fullShare (land I l c) := by
  rw [Finset.sdiff_empty, duties_recv, bigSep_singleton, payload_recv]
/-- The three barrier units together hand over every landing chunk that `c` writes. -/
theorem rest_bar : bigSep ((Rd I).duties (barCell c) 0 \ ∅) (fun d => (Rd I).payload (barCell c) 0 d)
    = bigSep Finset.univ fun l : Link => iprop(chunkAny l.dstM (l.nb c) ∗ reached ER (rCell l (l.nb c)) 0) := by
  rw [Finset.sdiff_empty, duties_bar, bigSep_congr fun d _ => payload_bar I c d]
  unfold barPay
  rw [Idealize.SL.BI.bigSep_fiberwise Finset.univ Link.dir
    (fun l : Link => iprop(chunkAny l.dstM (l.nb c) ∗ reached ER (rCell l (l.nb c)) 0))]
  refine bigSep_congr fun d _ => bigSep_congr fun l hl => ?_
  rw [nb_dir, (Finset.mem_filter.mp hl).2]

end Sched

/-! ## What a device owes, and the levels -/

/-- The receive credits of the copies in a list, at their destinations. -/
def owed (c : Dev nD) : List Link → CellTallies nD τ sig Unit
  | [] => 0
  | l :: ls => owed c ls + tallyAt (rCell l (l.nb c)) () N
/-- The barrier units on top. -/
def owed1 (c : Dev nD) : CellTallies nD τ sig Unit := owed c Link.all + tallyAt (barCell (zn c)) () 1
def owed2 (c : Dev nD) : CellTallies nD τ sig Unit := owed1 c + tallyAt (barCell (yn c)) () 1
/-- At entry: everything. -/
def O₀ (c : Dev nD) : CellTallies nD τ sig Unit := owed2 c + tallyAt (barCell (xn c)) () 1

/-- A device owes only to the landing semaphores of copies it has yet to start. -/
theorem owed_pos (c : Dev nD) : ∀ (ls : List Link) (g : GSem nD τ sig) (u : Unit), 0 < owed c ls g u →
    ∃ l ∈ ls, g = rCell l (l.nb c)
  | [], g, u, h => absurd h (Nat.lt_irrefl 0)
  | l :: ls, g, u, h => by
    have h' : 0 < owed c ls g u + tallyAt (rCell l (l.nb c)) () N g u := h
    by_cases hg : g = rCell l (l.nb c)
    · exact ⟨l, List.mem_cons_self, hg⟩
    · have h0 : (tallyAt (rCell l (l.nb c)) () N : CellTallies nD τ sig Unit) g u = 0 := by
        rw [tallyAt_apply, if_neg fun hh => hg hh.1]
      rw [h0, Nat.add_zero] at h'
      obtain ⟨l', hl', e⟩ := owed_pos c ls g u h'
      exact ⟨l', List.mem_cons_of_mem _ hl', e⟩

/-- The one credit index, on TensorCore cells. -/
def L (g : GSem nD τ sig) : Finset Unit := if g.1.2 = .tc then {()} else ∅
/-- Barrier cells at 1, receive cells at their copy's level, the rest at 0. -/
def lv (g : GSem nD τ sig) (_ : Unit) : ℕ :=
  if g.2 = .reg barrier0 then 1 else
    match linkOf g.2 with
    | some (l, 1) => l.level
    | _ => 0

/-- Only TensorCores have ordered semaphores. -/
theorem L_of_ne (g : GSem nD τ sig) (h : g.1.2 ≠ .tc) : L g = ∅ := if_neg h
/-- Every semaphore of a TensorCore is ordered. -/
theorem L_tc (c : Dev nD) (sm : SemLoc sig) : L ((c : Thread nD τ), sm) = {()} := if_pos rfl
/-- The barrier's place in the order. -/
theorem lv_bar (c : Dev nD) : lv (barCell c) () = 1 := if_pos rfl
/-- A receive semaphore's place in the order. -/
theorem lv_recv (l : Link) (c : Dev nD) : lv (rCell l c) () = l.level := by
  unfold lv; rw [if_neg (bar_ne _), linkOf_recv]; rfl
/-- A send semaphore's place in the order: the lowest. -/
theorem lv_send (l : Link) (c : Dev nD) : lv (sCell l c) () = 0 := by
  unfold lv; rw [if_neg (bar_ne _), linkOf_send]; rfl

/-- A device may wait while it owes only copies of later levels. -/
theorem mayWait (c : Dev nD) (sm : SemLoc sig) (ls : List Link) (h : ∀ l ∈ ls, lv ((c : Thread nD τ), sm) () < l.level) :
    (levAts L lv : sProp 𝕄) ⊢ MayWait (c : Thread nD τ) sm () (owed c ls) :=
  MayOwe.of_cut (L := L) (lev := lv) (lv ((c : Thread nD τ), sm) ())
    (fun p hp => by rw [Finset.mem_singleton.mp hp, L_tc]; exact Finset.mem_singleton_self _)
    (fun g u hg => by
      obtain ⟨l, -, rfl⟩ := owed_pos c ls g u hg
      rw [L_tc]; exact Finset.mem_singleton_self _)
    (fun p hp => by rw [Finset.mem_singleton.mp hp])
    (fun g u hg => by
      obtain ⟨l, hl, rfl⟩ := owed_pos c ls g u hg
      rw [lv_recv]; exact h l hl)

/-- A wait for a landing is below everything the device still owes. -/
theorem mayWait_recv (c : Dev nD) (l : Link) :
    (levAts L lv : sProp 𝕄) ⊢ MayWait (c : Thread nD τ) (.dma l.recvS) () (owed c (rem (time (.R l)))) :=
  mayWait c _ _ fun l' hl' => by rw [lv_recv l c]; exact rem_level l l' hl'
/-- A wait for a departure is below everything the device still owes. -/
theorem mayWait_send (c : Dev nD) (l : Link) :
    (levAts L lv : sProp 𝕄) ⊢ MayWait (c : Thread nD τ) (.dma l.sendS) () (owed c (rem (time (.B l)))) :=
  mayWait c _ _ fun l' hl' => by rw [rem_back] at hl'; cases hl'
/-- Every landing is above the barrier in the order. -/
theorem level_pos : ∀ l : Link, 1 < l.level := by decide
/-- The wait for the barrier is below everything the device owes. -/
theorem mayWait_bar (c : Dev nD) :
    (levAts L lv : sProp 𝕄) ⊢ MayWait (c : Thread nD τ) (.reg barrier0) () (owed c Link.all) :=
  mayWait c _ _ fun l' _ => by rw [lv_bar c]; exact level_pos l'

end Cert.KernelIdeal.Scatter

end
-- ==== Proof.State.lean ====
/-
  What a device holds before step `t` of its run, as a function of which steps come before `t`, and what one step changes.
-/
module

public import proofs.«01_k».proof.Proof.Sched

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The staged operands and the staged result. -/
abbrev oM : Memref sig .tc .vmem S2x1024x1024 .f32 := Memref.whole cc0_stg0_0
abbrev wM : Memref sig .tc .vmem S1024x2048 .f32 := Memref.whole cc0_stg1_0
abbrev outM : Memref sig .tc .vmem S2x512x2048 .f32 := Memref.whole cc0_stg2_0

variable (I : Inp F) (κ : GSem nD τ sig → ℕ) (f₀ : Vec F S2x512x2048 .f32) (c : Dev nD)

/-! ## The facts that stay -/

/-- The levels and every cell's invariant. -/
def recs : sProp 𝕄 :=
  iprop(levAts L lv ∗ bigSep Finset.univ (fun c : Dev nD => cellInv ER (Rd I) (κ (barCell c)) (barCell c))
    ∗ bigSep Finset.univ (fun p : Dev nD × Link => cellInv ER (Rd I) (κ (sCell p.2 p.1)) (sCell p.2 p.1))
    ∗ bigSep Finset.univ (fun p : Dev nD × Link => cellInv ER (Rd I) (κ (rCell p.2 p.1)) (rCell p.2 p.1)))

instance recs_persistent : BI.Persistent (recs I κ) := by unfold recs; infer_instance

/-- One member out of a persistent family. -/
theorem big_elim {A : Type*} [DecidableEq A] {s : Finset A} {a : A} (h : a ∈ s) {Φ : A → sProp 𝕄} : bigSep s Φ ⊢ Φ a := bigSep_elim h
/-- One member of a family split off. -/
theorem big_erase {A : Type*} [DecidableEq A] {s : Finset A} {a : A} (h : a ∈ s) {Φ : A → sProp 𝕄} :
    bigSep s Φ = iprop(Φ a ∗ bigSep (s.erase a) Φ) := bigSep_erase h

/-- The records give the order on the semaphores. -/
theorem recs_lev : recs I κ ⊢ levAts L lv := by unfold recs; iintro ⟨H, -⟩; iexact H
/-- The records give the barrier's invariant. -/
theorem recs_bar : recs I κ ⊢ cellInv ER (Rd I) (κ (barCell c)) (barCell c) := by
  unfold recs
  iintro ⟨-, H, -⟩
  iapply (big_elim (Finset.mem_univ c) (Φ := fun c : Dev nD => cellInv ER (Rd I) (κ (barCell c)) (barCell c)))
  iexact H
/-- The records give each send semaphore's invariant. -/
theorem recs_send (l : Link) : recs I κ ⊢ cellInv ER (Rd I) (κ (sCell l c)) (sCell l c) := by
  unfold recs
  iintro ⟨-, -, H, -⟩
  iapply (big_elim (Finset.mem_univ (c, l)) (Φ := fun p : Dev nD × Link => cellInv ER (Rd I) (κ (sCell p.2 p.1)) (sCell p.2 p.1)))
  iexact H
/-- The records give each receive semaphore's invariant. -/
theorem recs_recv (l : Link) : recs I κ ⊢ cellInv ER (Rd I) (κ (rCell l c)) (rCell l c) := by
  unfold recs
  iintro ⟨-, -, -, H⟩
  iapply (big_elim (Finset.mem_univ (c, l)) (Φ := fun p : Dev nD × Link => cellInv ER (Rd I) (κ (rCell p.2 p.1)) (rCell p.2 p.1)))
  iexact H

/-! ## The families -/

/-- A copy's sending side: ready with its destination, in flight, done. -/
def sendSt (t : ℕ) (l : Link) : sProp 𝕄 :=
  if t ≤ time (.S l) then
    iprop(atPos ER (sCell l c) 0 ∅ 0 ∗ reached ER (sCell l c) 0 ∗ dutyTok ER (sCell l c) 0 0 ∗ dutyTok ER (rCell l (l.nb c)) 0 0
      ∗ chunkAny l.dstM (l.nb c) ∗ reached ER (rCell l (l.nb c)) 0)
  else if t ≤ time (.B l) then iprop(atPos ER (sCell l c) 0 ∅ 0 ∗ cred (tallyAt (sCell l c) () N))
  else atPos ER (sCell l c) (0 + 1) ∅ 0

/-- A copy's receiving side: awaited, arrived. -/
def recvSt (t : ℕ) (l : Link) : sProp 𝕄 :=
  if t ≤ time (.R l) then iprop(atPos ER (rCell l c) 0 ∅ 0 ∗ cred (tallyAt (rCell l c) () N))
  else atPos ER (rCell l c) (0 + 1) ∅ 0

/-- A copy's source share at its contents. -/
def srcC (l : Link) : sProp 𝕄 := chunk l.srcM c (srcQ l) (sent I l c)
/-- A source chunk, as its elements of the buffer. -/
theorem srcC_open (l : Link) : srcC I c l
    ⊢ (l.srcM.view.loc (c : Thread nD τ) ↦[l.srcM.view.set]{srcQ l} l.srcM.view.rep (sent I l c)) := .rfl

/-- A copy's source before it starts: a send chunk being filled, or the share of what another copy brings. -/
def ready (t : ℕ) : Link → sProp 𝕄
  | .x k => if t ≤ time (.X k 0) then chunkAny (chk xsend k) c
    else if t ≤ time (.X k 1) then iprop(∃ V, chunk (chk xsend k) c fullShare (setRow V 0 (sentRow I c k 0)))
    else srcC I c (.x k)
  | .yd k => if t ≤ time (.R (.x k)) then iprop(emp) else srcC I c (.yd k)
  | .zd k => if t ≤ time (.R (.x k)) then iprop(emp) else srcC I c (.zd k)
  | .yf k => if t ≤ time (.R (.zd (Link.lo k))) then iprop(emp) else srcC I c (.yf k)
  | .zf k => if t ≤ time (.R (.yd (Link.up k))) then iprop(emp) else srcC I c (.zf k)

/-- How far the chunk of a first copy is filled before step `t`. -/
theorem ready_x (t : ℕ) (k : Fin 4) : ready I c t (.x k) = if t ≤ time (.X k 0) then chunkAny (chk xsend k) c
    else if t ≤ time (.X k 1) then iprop(∃ V, chunk (chk xsend k) c fullShare (setRow V 0 (sentRow I c k 0)))
    else srcC I c (.x k) := rfl

/-- A copy's source: before it starts, in flight, returned. -/
def srcSt (t : ℕ) (l : Link) : sProp 𝕄 :=
  if t ≤ time (.S l) then ready I c t l else if t ≤ time (.B l) then iprop(emp) else srcC I c l

/-- The kept share of a landed chunk. -/
abbrev keepC (l : Link) : sProp 𝕄 := chunk l.dstM c (keepQ l) (land I l c)
def keepSt (t : ℕ) (l : Link) : sProp 𝕄 := if t ≤ time (.R l) then iprop(emp) else keepC I c l

/-- The staged operands. -/
def ins : sProp 𝕄 :=
  iprop((oM.view.loc (c : Thread nD τ) ↦[oM.view.set]{fullShare} oM.view.rep (I.O c))
    ∗ (wM.view.loc (c : Thread nD τ) ↦[wM.view.set]{fullShare} wM.view.rep (I.W c)))
/-- The staged result at a value. -/
def outP (V : Vec F S2x512x2048 .f32) : sProp 𝕄 :=
  outM.view.loc (c : Thread nD τ) ↦[outM.view.set]{fullShare} outM.view.rep V
/-- What is owed, whatever has been waited on. -/
abbrev ow (ls : List Link) : sProp 𝕄 := iprop(∃ Wd, owes (c : Thread nD τ) (owed c ls) Wd)

/-- What device `c` holds before step `t`. -/
def St (t : ℕ) : sProp 𝕄 :=
  iprop(recs I κ ∗ ow c (rem t) ∗ ins I c ∗ outP c (outAt I c f₀ t)
    ∗ bigSep Finset.univ (sendSt c t) ∗ bigSep Finset.univ (recvSt c t)
    ∗ bigSep Finset.univ (srcSt I c t) ∗ bigSep Finset.univ (keepSt I c t))

/-! ## What a step leaves -/

variable {e : Ev} (l : Link)

/-- A step that neither starts the copy nor awaits its departure leaves its sending end. -/
theorem sendSt_other (h1 : .S l ≠ e) (h2 : .B l ≠ e) : (sendSt c (time e) l : sProp 𝕄) = sendSt c (time e + 1) l := by
  unfold sendSt; simp only [le_next h1, le_next h2]
/-- A step that does not await the landing leaves the receiving end. -/
theorem recvSt_other (h : .R l ≠ e) : (recvSt c (time e) l : sProp 𝕄) = recvSt c (time e + 1) l := by
  unfold recvSt; simp only [le_next h]
/-- A step that does not await the landing leaves the kept part of the chunk. -/
theorem keepSt_other (h : .R l ≠ e) : (keepSt I c (time e) l : sProp 𝕄) = keepSt I c (time e + 1) l := by
  unfold keepSt; simp only [le_next h]
/-- A step that does not fill the source leaves it. -/
theorem ready_other (h3 : ∀ p, par l = some p → .R p ≠ e) (h4 : ∀ k b, l = .x k → .X k b ≠ e) :
    (ready I c (time e) l : sProp 𝕄) = ready I c (time e + 1) l := by
  cases l with
  | x k => unfold ready; simp only [le_next (h4 k 0 rfl), le_next (h4 k 1 rfl)]
  | yd k => unfold ready; simp only [le_next (h3 _ rfl)]
  | zd k => unfold ready; simp only [le_next (h3 _ rfl)]
  | yf k => unfold ready; simp only [le_next (h3 _ rfl)]
  | zf k => unfold ready; simp only [le_next (h3 _ rfl)]
/-- A step that does not touch the source leaves it. -/
theorem srcSt_other (h1 : .S l ≠ e) (h2 : .B l ≠ e) (h3 : ∀ p, par l = some p → .R p ≠ e) (h4 : ∀ k b, l = .x k → .X k b ≠ e) :
    (srcSt I c (time e) l : sProp 𝕄) = srcSt I c (time e + 1) l := by
  unfold srcSt; rw [ready_other I c l h3 h4]; simp only [le_next h1, le_next h2]

/-- The four families after a step that moves no copy and fills no chunk. -/
theorem fams_other (hS : ∀ l, Ev.S l ≠ e) (hR : ∀ l, Ev.R l ≠ e) (hB : ∀ l, Ev.B l ≠ e) (hX : ∀ k b, Ev.X k b ≠ e) :
    (sendSt c (time e) : Link → sProp 𝕄) = sendSt c (time e + 1) ∧ (recvSt c (time e) : Link → sProp 𝕄) = recvSt c (time e + 1)
      ∧ srcSt I c (time e) = srcSt I c (time e + 1) ∧ keepSt I c (time e) = keepSt I c (time e + 1) :=
  ⟨funext fun l => sendSt_other c l (hS l) (hB l), funext fun l => recvSt_other c l (hR l),
    funext fun l => srcSt_other I c l (hS l) (hB l) (fun p _ => hR p) (fun k b _ => hX k b), funext fun l => keepSt_other I c l (hR l)⟩

/-- One member of a family taken out to be changed. -/
theorem fam_step {Φ Ψ : Link → sProp 𝕄} (l : Link) (h : ∀ l', l' ≠ l → Φ l' = Ψ l') :
    bigSep Finset.univ Φ ⊢ iprop(Φ l ∗ (Ψ l -∗ bigSep Finset.univ Ψ)) := by
  rw [big_erase (Finset.mem_univ l) (Φ := Φ), big_erase (Finset.mem_univ l) (Φ := Ψ),
    bigSep_congr (s := Finset.univ.erase l) (Φ := Φ) (Ψ := Ψ) fun l' hl' => h l' (Finset.ne_of_mem_erase hl')]
  iintro ⟨H, Hr⟩
  isplitl [H]; · iexact H
  iintro H
  isplitl [H]; · iexact H
  iexact Hr

/-- One member of a family taken out to be changed, its two states named. -/
theorem fam_step' {Φ Ψ : Link → sProp 𝕄} (l : Link) (h : ∀ l', l' ≠ l → Φ l' = Ψ l') {A B : sProp 𝕄} (hA : Φ l = A) (hB : Ψ l = B) :
    bigSep Finset.univ Φ ⊢ iprop(A ∗ (B -∗ bigSep Finset.univ Ψ)) := by
  subst hA hB; exact fam_step l h

/-! ## The members at their own steps -/

/-- The sending end before the copy starts. -/
theorem sendSt_S : (sendSt c (time (.S l)) l : sProp 𝕄)
    = iprop(atPos ER (sCell l c) 0 ∅ 0 ∗ reached ER (sCell l c) 0 ∗ dutyTok ER (sCell l c) 0 0 ∗ dutyTok ER (rCell l (l.nb c)) 0 0
      ∗ chunkAny l.dstM (l.nb c) ∗ reached ER (rCell l (l.nb c)) 0) := if_pos le_rfl
/-- The sending end after the copy has started. -/
theorem sendSt_S' : (sendSt c (time (.S l) + 1) l : sProp 𝕄) = iprop(atPos ER (sCell l c) 0 ∅ 0 ∗ cred (tallyAt (sCell l c) () N)) := by
  unfold sendSt; rw [if_neg (Nat.not_succ_le_self _), if_pos (Nat.succ_le_of_lt (S_lt_B l))]
/-- The sending end before the departure is awaited. -/
theorem sendSt_B : (sendSt c (time (.B l)) l : sProp 𝕄) = iprop(atPos ER (sCell l c) 0 ∅ 0 ∗ cred (tallyAt (sCell l c) () N)) := by
  unfold sendSt; rw [if_neg (Nat.not_le.mpr (S_lt_B l)), if_pos le_rfl]
/-- The sending end after the departure was awaited. -/
theorem sendSt_B' : (sendSt c (time (.B l) + 1) l : sProp 𝕄) = atPos ER (sCell l c) (0 + 1) ∅ 0 := by
  have := S_lt_B l
  unfold sendSt; rw [if_neg (by omega), if_neg (Nat.not_succ_le_self _)]
/-- The receiving end before the landing is awaited. -/
theorem recvSt_R : (recvSt c (time (.R l)) l : sProp 𝕄) = iprop(atPos ER (rCell l c) 0 ∅ 0 ∗ cred (tallyAt (rCell l c) () N)) := if_pos le_rfl
/-- The receiving end after the landing was awaited. -/
theorem recvSt_R' : (recvSt c (time (.R l) + 1) l : sProp 𝕄) = atPos ER (rCell l c) (0 + 1) ∅ 0 := if_neg (Nat.not_succ_le_self _)
/-- The kept part of a chunk just after it landed. -/
theorem keepSt_R' : (keepSt I c (time (.R l) + 1) l : sProp 𝕄) = keepC I c l := if_neg (Nat.not_succ_le_self _)
/-- Nothing of a chunk is kept before it lands. -/
theorem keepSt_R : (keepSt I c (time (.R l)) l : sProp 𝕄) = iprop(emp) := if_pos le_rfl
/-- The kept part of a chunk at any time after it landed. -/
theorem keepSt_after (t : ℕ) (h : time (.R l) < t) : (keepSt I c t l : sProp 𝕄) = keepC I c l := if_neg (Nat.not_le.mpr h)

/-- A chunk's products come before its copy. -/
theorem X_lt_S : ∀ (k : Fin 4) (b : Fin 2), time (.X k b) < time (.S (.x k)) := by decide
/-- The second batch's product follows the first's. -/
theorem X0_lt_X1 : ∀ (k : Fin 4), time (.X k 1) = time (.X k 0) + 1 := by decide
/-- The copy follows the second batch's product. -/
theorem X1_S : ∀ (k : Fin 4), time (.S (.x k)) = time (.X k 1) + 1 := by decide

/-- The source before the copy starts. -/
theorem srcSt_S : (srcSt I c (time (.S l)) l : sProp 𝕄) = srcC I c l := by
  unfold srcSt
  rw [if_pos le_rfl]
  cases l with
  | x k =>
    rw [ready_x, if_neg (Nat.not_le.mpr (X_lt_S k 0)), if_neg (Nat.not_le.mpr (X_lt_S k 1))]
  | yd k => exact if_neg (Nat.not_le.mpr (R_lt_S _ _ rfl))
  | zd k => exact if_neg (Nat.not_le.mpr (R_lt_S _ _ rfl))
  | yf k => exact if_neg (Nat.not_le.mpr (R_lt_S _ _ rfl))
  | zf k => exact if_neg (Nat.not_le.mpr (R_lt_S _ _ rfl))
/-- The source is away after the copy has started. -/
theorem srcSt_S' : (srcSt I c (time (.S l) + 1) l : sProp 𝕄) = iprop(emp) := by
  unfold srcSt; rw [if_neg (Nat.not_succ_le_self _), if_pos (Nat.succ_le_of_lt (S_lt_B l))]
/-- The source is away until the departure is awaited. -/
theorem srcSt_B : (srcSt I c (time (.B l)) l : sProp 𝕄) = iprop(emp) := by
  unfold srcSt; rw [if_neg (Nat.not_le.mpr (S_lt_B l)), if_pos le_rfl]
/-- The source is back after the departure was awaited. -/
theorem srcSt_B' : (srcSt I c (time (.B l) + 1) l : sProp 𝕄) = srcC I c l := by
  have := S_lt_B l
  unfold srcSt; rw [if_neg (by omega), if_neg (Nat.not_succ_le_self _)]
/-- The source of a first copy before anything is stored in it. -/
theorem srcSt_X0 (k : Fin 4) : (srcSt I c (time (.X k 0)) (.x k) : sProp 𝕄) = chunkAny (chk xsend k) c := by
  unfold srcSt; rw [if_pos (X_lt_S k 0).le]; rw [ready_x, if_pos le_rfl]
/-- The source of a first copy with one batch stored. -/
theorem srcSt_X1 (k : Fin 4) : (srcSt I c (time (.X k 1)) (.x k) : sProp 𝕄)
    = iprop(∃ V, chunk (chk xsend k) c fullShare (setRow V 0 (sentRow I c k 0))) := by
  have := X0_lt_X1 k
  unfold srcSt; rw [if_pos (X_lt_S k 1).le]; rw [ready_x, if_neg (by omega), if_pos le_rfl]
/-- The source of a first copy with both batches stored. -/
theorem srcSt_X2 (k : Fin 4) : (srcSt I c (time (.X k 1) + 1) (.x k) : sProp 𝕄) = srcC I c (.x k) := by
  rw [← X1_S]; exact srcSt_S I c (.x k)

/-- A forwarded copy's source before and after what it forwards arrives. -/
theorem srcSt_par (p : Link) (h : par l = some p) : (srcSt I c (time (.R p)) l : sProp 𝕄) = iprop(emp) := by
  have hlt := R_lt_S l p h
  unfold srcSt
  rw [if_pos hlt.le]
  cases l <;> cases h <;> exact if_pos le_rfl
/-- The source of a forwarded copy is filled when the copy before it lands. -/
theorem srcSt_par' (p : Link) (h : par l = some p) : (srcSt I c (time (.R p) + 1) l : sProp 𝕄) = srcC I c l := by
  have hlt := R_lt_S l p h
  unfold srcSt
  rw [if_pos (show time (.R p) + 1 ≤ time (.S l) from hlt)]
  cases l <;> cases h <;> exact if_neg (Nat.not_succ_le_self _)

end Cert.KernelIdeal.Scatter

end
-- ==== Proof.StepsComm.lean ====
/-
  The steps of a device that move copies: starting one, receiving one, having its source back.
-/
module

public import proofs.«01_k».proof.Proof.State

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Inp F} {κ : GSem nD τ sig → ℕ} {f₀ : Vec F S2x512x2048 .f32} {c : Dev nD} {t : ℕ}
  {α : Type}

/-! ## Starting a copy -/

/-- The departure gives back the source chunk. -/
theorem send_pay₁ (l : Link) : (l.srcM.view.loc (c : Thread nD τ) ↦[l.srcM.view.set]{srcQ l} l.srcM.view.rep (sent I l c))
    ⊢ (Rd I).payload (sCell l c) 0 0 := by
  rw [payload_send]; exact .rfl

/-- The landing gives the destination chunk with the sent contents. -/
theorem send_pay₂ (l : Link) (fd : Buf (Elt F) (l.dstM.view.loc (l.nb c : Thread nD τ))) :
    (l.dstM.view.loc (l.nb c : Thread nD τ) ↦[l.dstM.view.set]{fullShare}
        (l.dstM.view.write (Elt F) fd (l.srcM.view.read (Elt F) (l.srcM.view.rep (sent I l c))) Finset.univ))
      ⊢ (Rd I).payload (rCell l (l.nb c)) 0 0 := by
  rw [payload_recv, land_nb]
  exact chunk_of_read _ _ _ _ _ (by rw [View.read_write_univ, View.read_rep])

/-- A step that starts a copy. -/
theorem step_send {Q : α → sProp (MT nD τ sig Unit (Elt F) ℕ UU ℕ)} (l : Link) (n : Dev nD) (hn : n = l.nb c) (ht : t = time (.S l))
    {hsc : l.dstM.view.ref.isScScratch = false} {hsrc : l.srcM.view.WordExact} {hdst : l.dstM.view.WordExact}
    {hsem : DmaTarget.Typed _ (.dma l.recvS) (.remote (n : Thread nD τ) l.dstM (.dma l.sendS) hsc)}
    {k : PUnit → Prog (TpuEff nD τ sig (Elt F) Λ₀ .tc) α}
    (h : St I κ f₀ c (t + 1) ⊢ wp frame (wpE (defs₀ (F := F)) 𝒱₀ (c : Thread nD τ) none) Set.univ (k ⟨⟩) Q) :
    St I κ f₀ c t ⊢ wp frame (wpE (defs₀ (F := F)) 𝒱₀ (c : Thread nD τ) none) Set.univ
      (.op (.enqueueDma l.srcM (.remote (n : Thread nD τ) l.dstM (.dma l.sendS) hsc) (.dma l.recvS) hsrc hdst hsem) k) Q := by
  subst hn ht
  unfold St at h ⊢
  rw [← (funext fun l' => recvSt_other c l' (e := .S l) (fun h => Ev.noConfusion h) : (recvSt c (time (.S l)) : Link → sProp 𝕄) = _),
    ← (funext fun l' => keepSt_other I c l' (e := .S l) (fun h => Ev.noConfusion h) : (keepSt I c (time (.S l)) : Link → sProp 𝕄) = _),
    outAt_other I c f₀ (e := .S l) (fun _ _ h => Ev.noConfusion h) (fun _ _ _ h => Ev.noConfusion h)] at h
  iintro ⟨#Hrec, How, Hins, Hout, HS, HR, Hsrc, Hk⟩
  icases How with ⟨%Wd, HO⟩
  ihave HS' := (fam_step' (Φ := sendSt c (time (.S l))) (Ψ := sendSt c (time (.S l) + 1)) l (fun l' hl' =>
    sendSt_other c l' (fun h => hl' (Ev.S.inj h)) (fun h => Ev.noConfusion h)) (sendSt_S c l) (sendSt_S' c l)) $$ HS
  icases HS' with ⟨HSl, HSb⟩
  ihave Hsrc' := (fam_step' (Φ := srcSt I c (time (.S l))) (Ψ := srcSt I c (time (.S l) + 1)) l (fun l' hl' =>
    srcSt_other I c l' (fun h => hl' (Ev.S.inj h)) (fun h => Ev.noConfusion h) (fun _ _ h => Ev.noConfusion h) (fun _ _ _ h => Ev.noConfusion h)) (srcSt_S I c l) (srcSt_S' I c l)) $$ Hsrc
  icases Hsrc' with ⟨Hsl, Hsb⟩
  icases HSl with ⟨Hat, #Hrs, Ht1, Ht2, Hd, #Hrr⟩
  ihave Hsl := (srcC_open I c l) $$ Hsl
  ihave Hd' := (chunkAny_open l.dstM (l.nb c)) $$ Hd
  icases Hd' with ⟨%fd, Hd⟩
  ihave #HIs := (recs_send I κ c l) $$ Hrec
  ihave #HIr := (recs_recv I κ (l.nb c) l) $$ Hrec
  iapply (Rounds.wp_send_pointsTo 𝒱₀ ER (Rd I) (c : Thread nD τ) none (c' := ((l.nb c : Dev nD) : Thread nD τ)) (src := l.srcM) (dst := l.dstM)
      (sS := .dma l.sendS) (sem := .dma l.recvS) (q := srcQ l) (fs := l.srcM.view.rep (sent I l c)) (fd := fd)
      (κ₁ := κ (sCell l c)) (κ₂ := κ (rCell l (l.nb c))) (r₁ := 0) (r₂ := 0) (d₁ := 0) (d₂ := 0)
      (by rw [duties_send]; exact Finset.mem_singleton_self _) (by rw [duties_recv]; exact Finset.mem_singleton_self _)
      () () N (dst_amount l) (amount_send ..) (amount_recv ..) (owed c (rem (time (.S l) + 1))) ((congrArg (owed c) (rem_send l)).trans rfl) (W := Wd)
      (send_pay₁ l) (send_pay₂ l fd)) $$ [Hsl Hd HO Ht1 Ht2]
  · isplitr; · iexact HIs
    isplitr; · iexact HIr
    isplitl [Hsl]; · iexact Hsl
    isplitl [Hd]; · iexact Hd
    isplitl [HO]; · iexact HO
    isplitl [Ht1]; · iexact Ht1
    isplitr; · iexact Hrs
    isplitl [Ht2]; · iexact Ht2
    iexact Hrr
  iintro ⟨Hc, HO⟩
  ihave HS := HSb $$ [Hat Hc]
  · isplitl [Hat]; · iexact Hat
    iexact Hc
  ihave Hsrc := Hsb $$ []
  · iempintro
  iapply h
  isplitr; · iexact Hrec
  isplitl [HO]; · iexists Wd; iexact HO
  isplitl [Hins]; · iexact Hins
  isplitl [Hout]; · iexact Hout
  isplitl [HS]; · iexact HS
  isplitl [HR]; · iexact HR
  isplitl [Hsrc]; · iexact Hsrc
  iexact Hk

/-! ## Having a copy's source back -/

/-- A step that awaits a departure. -/
theorem step_back {Q : α → sProp (MT nD τ sig Unit (Elt F) ℕ UU ℕ)} (l : Link) (ht : t = time (.B l)) {sp sp' : Space} {s s' : Shape} {e e' : EltTy} {κ' : Kind}
    {src : Memref sig .tc sp' s' e'} {dst : Memref sig κ' sp s e} {hsrc : src.view.WordExact} {hdst : dst.view.WordExact}
    (hN : dst.view.dmaCredit = N) {k : PUnit → Prog (TpuEff nD τ sig (Elt F) Λ₀ .tc) α}
    (h : St I κ f₀ c (t + 1) ⊢ wp frame (wpE (defs₀ (F := F)) 𝒱₀ (c : Thread nD τ) none) Set.univ (k ⟨⟩) Q) :
    St I κ f₀ c t ⊢ wp frame (wpE (defs₀ (F := F)) 𝒱₀ (c : Thread nD τ) none) Set.univ
      (.op (.waitDma2 l.sendS src dst hsrc hdst) k) Q := by
  subst ht
  unfold St at h ⊢
  rw [← (funext fun l' => recvSt_other c l' (e := .B l) (fun h => Ev.noConfusion h) : (recvSt c (time (.B l)) : Link → sProp 𝕄) = _),
    ← (funext fun l' => keepSt_other I c l' (e := .B l) (fun h => Ev.noConfusion h) : (keepSt I c (time (.B l)) : Link → sProp 𝕄) = _),
    outAt_other I c f₀ (e := .B l) (fun _ _ h => Ev.noConfusion h) (fun _ _ _ h => Ev.noConfusion h),
    rem_other (e := .B l) (fun _ h => Ev.noConfusion h)] at h
  iintro ⟨#Hrec, How, Hins, Hout, HS, HR, Hsrc, Hk⟩
  icases How with ⟨%Wd, HO⟩
  ihave HS' := (fam_step' (Φ := sendSt c (time (.B l))) (Ψ := sendSt c (time (.B l) + 1)) l (fun l' hl' =>
    sendSt_other c l' (fun h => Ev.noConfusion h) (fun h => hl' (Ev.B.inj h))) (sendSt_B c l) (sendSt_B' c l)) $$ HS
  icases HS' with ⟨⟨Hat, Hcred⟩, HSb⟩
  ihave Hsrc' := (fam_step' (Φ := srcSt I c (time (.B l))) (Ψ := srcSt I c (time (.B l) + 1)) l (fun l' hl' =>
    srcSt_other I c l' (fun h => Ev.noConfusion h) (fun h => hl' (Ev.B.inj h)) (fun _ _ h => Ev.noConfusion h) (fun _ _ _ h => Ev.noConfusion h))
    (srcSt_B I c l) (srcSt_B' I c l)) $$ Hsrc
  icases Hsrc' with ⟨-, Hsb⟩
  ihave #HIs := (recs_send I κ c l) $$ Hrec
  ihave #Hlev := (recs_lev I κ) $$ Hrec
  ihave #Hmw := (mayWait_send c l) $$ Hlev
  iapply (Rounds.wp_wait_rest_token 𝒱₀ ER (Rd I) (c : Thread nD τ) none (κ := κ (sCell l c)) (k' := N) (sm := .dma l.sendS)
      (fun K => (wpE_waitDma2_eq 𝒱₀ (c : Thread nD τ) none Set.univ K).trans (congrArg (fun n => waitSpec (c : Thread nD τ) Set.univ (.dma l.sendS) n K) hN))
      (Set.mem_univ _) () (O := owed c (rem (time (.B l)))) (W := Wd) (R := 0) (m := 0) (T := ∅)
      ((Nat.zero_add _).trans (expect_send I c l).symm)) $$ [Hcred HO Hat]
  · isplitr; · iexact HIs
    isplitl [Hcred]; · iexact Hcred
    isplitl [HO]; · iexact HO
    isplitr; · iexact Hmw
    iexact Hat
  iintro ⟨HO, Hat, -, Hpay⟩
  ihave Hc := (Entails.of_eq ((rest_send I c l).trans (rfl : _ = srcC I c l))) $$ Hpay
  ihave HS := HSb $$ Hat
  ihave Hsrc := Hsb $$ Hc
  iapply h
  isplitr; · iexact Hrec
  isplitl [HO]; · iexists _; iexact HO
  isplitl [Hins]; · iexact Hins
  isplitl [Hout]; · iexact Hout
  isplitl [HS]; · iexact HS
  isplitl [HR]; · iexact HR
  isplitl [Hsrc]; · iexact Hsrc
  iexact Hk

/-! ## Receiving a copy -/

/-- The sources that what a copy brings are filled, if it forwards nothing. -/
theorem src_none (p : Link) (h : ∀ l, par l ≠ some p) : (srcSt I c (time (.R p)) : Link → sProp 𝕄) = srcSt I c (time (.R p) + 1) :=
  funext fun l => srcSt_other I c l (fun h => Ev.noConfusion h) (fun h => Ev.noConfusion h)
    (fun p' hp' hh => h l (by rw [hp', Ev.R.inj hh])) (fun _ _ _ h => Ev.noConfusion h)

/-- Away from the copies that forward what `p` brings, its arrival changes no source. -/
theorem src_away (p l : Link) (h : par l ≠ some p) : (srcSt I c (time (.R p)) l : sProp 𝕄) = srcSt I c (time (.R p) + 1) l :=
  srcSt_other I c l (fun h => Ev.noConfusion h) (fun h => Ev.noConfusion h)
    (fun p' hp' hh => h (by rw [hp', Ev.R.inj hh])) (fun _ _ _ h => Ev.noConfusion h)

/-- One forwarding copy: its source fills. -/
theorem src_one (p l : Link) (hl : par l = some p) (h : ∀ l', par l' = some p → l' = l) :
    iprop(bigSep Finset.univ (srcSt I c (time (.R p))) ∗ srcC I c l) ⊢ bigSep Finset.univ (srcSt I c (time (.R p) + 1)) := by
  iintro ⟨H, Hc⟩
  ihave H' := (fam_step' (Φ := srcSt I c (time (.R p))) (Ψ := srcSt I c (time (.R p) + 1)) l
    (fun l' hl' => src_away p l' fun hh => hl' (h l' hh)) (srcSt_par I c l p hl) (srcSt_par' I c l p hl)) $$ H
  icases H' with ⟨-, Hb⟩
  iapply Hb; iexact Hc

/-- Two forwarding copies: both sources fill. -/
theorem src_two (p l₁ l₂ : Link) (hne : l₂ ≠ l₁) (hl₁ : par l₁ = some p) (hl₂ : par l₂ = some p) (h : ∀ l', par l' = some p → l' = l₁ ∨ l' = l₂) :
    iprop(bigSep Finset.univ (srcSt I c (time (.R p))) ∗ srcC I c l₁ ∗ srcC I c l₂) ⊢ bigSep Finset.univ (srcSt I c (time (.R p) + 1)) := by
  iintro ⟨H, Hc₁, Hc₂⟩
  ihave H' := (fam_step' (Φ := srcSt I c (time (.R p))) (Ψ := Function.update (srcSt I c (time (.R p))) l₁ (srcC I c l₁)) l₁
    (fun l' hl' => (Function.update_of_ne hl' _ _).symm) (srcSt_par I c l₁ p hl₁) (Function.update_self ..)) $$ H
  icases H' with ⟨-, Hb⟩
  ihave H := Hb $$ Hc₁
  ihave H' := (fam_step' (Φ := Function.update (srcSt I c (time (.R p))) l₁ (srcC I c l₁)) (Ψ := srcSt I c (time (.R p) + 1)) l₂
    (fun l' hl' => by
      by_cases h1 : l' = l₁
      · subst h1; rw [Function.update_self, srcSt_par' I c l' p hl₁]
      · rw [Function.update_of_ne h1]; exact src_away p l' fun hh => (h l' hh).elim h1 hl')
    ((Function.update_of_ne hne _ _).trans (srcSt_par I c l₂ p hl₂)) (srcSt_par' I c l₂ p hl₂)) $$ H
  icases H' with ⟨-, Hb⟩
  iapply Hb; iexact Hc₂

/-- A first copy's chunk is passed on along the second and the third axis. -/
theorem par_x : ∀ (k : Fin 4) (l' : Link), par l' = some (.x k) → l' = .yd k ∨ l' = .zd k := by decide
/-- A lower chunk from the third axis is forwarded along the second. -/
theorem par_zd : ∀ (j : Fin 2) (l' : Link), par l' = some (.zd (Link.lo j)) → l' = .yf j := by decide
/-- An upper chunk from the second axis is forwarded along the third. -/
theorem par_yd : ∀ (j : Fin 2) (l' : Link), par l' = some (.yd (Link.up j)) → l' = .zf j := by decide
/-- An upper chunk from the third axis is not forwarded. -/
theorem par_zd' : ∀ (k : Fin 4) (l' : Link), ¬ k.val < 2 → par l' ≠ some (.zd k) := by decide
/-- A lower chunk from the second axis is not forwarded. -/
theorem par_yd' : ∀ (k : Fin 4) (l' : Link), k.val < 2 → par l' ≠ some (.yd k) := by decide
/-- A chunk forwarded along the second axis goes no further. -/
theorem par_yf : ∀ (j : Fin 2) (l' : Link), par l' ≠ some (.yf j) := by decide
/-- A chunk forwarded along the third axis goes no further. -/
theorem par_zf : ∀ (j : Fin 2) (l' : Link), par l' ≠ some (.zf j) := by decide
/-- A chunk below two is a lower chunk. -/
theorem lo_of : ∀ k : Fin 4, k.val < 2 → ∃ j : Fin 2, k = Link.lo j := by decide
/-- A chunk from two on is an upper chunk. -/
theorem up_of : ∀ k : Fin 4, ¬ k.val < 2 → ∃ j : Fin 2, k = Link.up j := by decide

/-- An arrival that nothing forwards keeps all of what it brings. -/
theorem fill_none (p : Link) (h : ∀ l, par l ≠ some p) (hq : keepQ p = fullShare) :
    iprop(bigSep Finset.univ (srcSt I c (time (.R p))) ∗ chunk p.dstM c fullShare (land I p c))
      ⊢ iprop(bigSep Finset.univ (srcSt I c (time (.R p) + 1)) ∗ keepC I c p) := by
  rw [src_none p h]; unfold keepC; rw [hq]

/-- An arrival that one copy forwards leaves the other half. -/
theorem fill_one (p l : Link) (hl : par l = some p) (h : ∀ l', par l' = some p → l' = l) (hM : l.srcM = p.dstM)
    (hs : srcQ l = fullShare.left) (hq : keepQ p = fullShare.right) :
    iprop(bigSep Finset.univ (srcSt I c (time (.R p))) ∗ chunk p.dstM c fullShare (land I p c))
      ⊢ iprop(bigSep Finset.univ (srcSt I c (time (.R p) + 1)) ∗ keepC I c p) := by
  have e : srcC I c l = chunk p.dstM c fullShare.left (land I p c) := by unfold srcC; rw [hM, hs, sent_par I c l p hl]
  have ek : keepC I c p = chunk p.dstM c fullShare.right (land I p c) := by unfold keepC; rw [hq]
  rw [ek]
  iintro ⟨H, Hc⟩
  ihave Hc := (chunk_split p.dstM c fullShare (land I p c)).1 $$ Hc
  icases Hc with ⟨Hl, Hr⟩
  isplitl [H Hl]
  · iapply (src_one p l hl h)
    isplitl [H]; · iexact H
    iapply (Entails.of_eq e.symm); iexact Hl
  iexact Hr

/-- What arrives fills the sources of the copies that forward it, and leaves the kept share. -/
theorem src_fill (p : Link) :
    iprop(bigSep Finset.univ (srcSt I c (time (.R p))) ∗ chunk p.dstM c fullShare (land I p c))
      ⊢ iprop(bigSep Finset.univ (srcSt I c (time (.R p) + 1)) ∗ keepC I c p) := by
  cases p with
  | x k =>
    have e₁ : srcC I c (.yd k) = chunk (Link.x k).dstM c fullShare.left (land I (.x k) c) := by
      unfold srcC; rw [sent_par I c (.yd k) (.x k) rfl]; rfl
    have e₂ : srcC I c (.zd k) = chunk (Link.x k).dstM c fullShare.right.left (land I (.x k) c) := by
      unfold srcC; rw [sent_par I c (.zd k) (.x k) rfl]; rfl
    iintro ⟨H, Hc⟩
    ihave Hc := (chunk_split (Link.x k).dstM c fullShare (land I (.x k) c)).1 $$ Hc
    icases Hc with ⟨Hl, Hr⟩
    ihave Hr := (chunk_split (Link.x k).dstM c fullShare.right (land I (.x k) c)).1 $$ Hr
    icases Hr with ⟨Hrl, Hrr⟩
    isplitl [H Hl Hrl]
    · iapply (src_two (.x k) (.yd k) (.zd k) (fun h => Link.noConfusion h) rfl rfl (par_x k))
      isplitl [H]; · iexact H
      isplitl [Hl]
      · iapply (Entails.of_eq e₁.symm); iexact Hl
      · iapply (Entails.of_eq e₂.symm); iexact Hrl
    iexact Hrr
  | yd k =>
    by_cases hk : k.val < 2
    · exact fill_none _ (fun l => par_yd' k l hk) (if_pos hk)
    · have hq : keepQ (.yd k) = fullShare.right := if_neg hk
      obtain ⟨j, rfl⟩ := up_of k hk
      exact fill_one _ (.zf j) rfl (par_yd j) rfl rfl hq
  | zd k =>
    by_cases hk : k.val < 2
    · have hq : keepQ (.zd k) = fullShare.right := if_pos hk
      obtain ⟨j, rfl⟩ := lo_of k hk
      exact fill_one _ (.yf j) rfl (par_zd j) rfl rfl hq
    · exact fill_none _ (fun l => par_zd' k l hk) (if_neg hk)
  | yf j => exact fill_none _ (par_yf j) rfl
  | zf j => exact fill_none _ (par_zf j) rfl

/-- A step that awaits a landing. -/
theorem step_recv {Q : α → sProp (MT nD τ sig Unit (Elt F) ℕ UU ℕ)} (l : Link) (ht : t = time (.R l)) {sp sp' : Space} {s s' : Shape} {e e' : EltTy} {κ' : Kind}
    {src : Memref sig .tc sp' s' e'} {dst : Memref sig κ' sp s e} {hsrc : src.view.WordExact} {hdst : dst.view.WordExact}
    (hN : dst.view.dmaCredit = N) {k : PUnit → Prog (TpuEff nD τ sig (Elt F) Λ₀ .tc) α}
    (h : St I κ f₀ c (t + 1) ⊢ wp frame (wpE (defs₀ (F := F)) 𝒱₀ (c : Thread nD τ) none) Set.univ (k ⟨⟩) Q) :
    St I κ f₀ c t ⊢ wp frame (wpE (defs₀ (F := F)) 𝒱₀ (c : Thread nD τ) none) Set.univ
      (.op (.waitDma2 l.recvS src dst hsrc hdst) k) Q := by
  subst ht
  unfold St at h ⊢
  rw [← (funext fun l' => sendSt_other c l' (e := .R l) (fun h => Ev.noConfusion h) (fun h => Ev.noConfusion h) : (sendSt c (time (.R l)) : Link → sProp 𝕄) = _),
    outAt_other I c f₀ (e := .R l) (fun _ _ h => Ev.noConfusion h) (fun _ _ _ h => Ev.noConfusion h),
    rem_other (e := .R l) (fun _ h => Ev.noConfusion h)] at h
  iintro ⟨#Hrec, How, Hins, Hout, HS, HR, Hsrc, Hk⟩
  icases How with ⟨%Wd, HO⟩
  ihave HR' := (fam_step' (Φ := recvSt c (time (.R l))) (Ψ := recvSt c (time (.R l) + 1)) l (fun l' hl' =>
    recvSt_other c l' (fun h => hl' (Ev.R.inj h))) (recvSt_R c l) (recvSt_R' c l)) $$ HR
  icases HR' with ⟨⟨Hat, Hcred⟩, HRb⟩
  ihave Hk' := (fam_step' (Φ := keepSt I c (time (.R l))) (Ψ := keepSt I c (time (.R l) + 1)) l (fun l' hl' =>
    keepSt_other I c l' (fun h => hl' (Ev.R.inj h))) (keepSt_R I c l) (keepSt_R' I c l)) $$ Hk
  icases Hk' with ⟨-, Hkb⟩
  ihave #HIs := (recs_recv I κ c l) $$ Hrec
  ihave #Hlev := (recs_lev I κ) $$ Hrec
  ihave #Hmw := (mayWait_recv c l) $$ Hlev
  iapply (Rounds.wp_wait_rest_token 𝒱₀ ER (Rd I) (c : Thread nD τ) none (κ := κ (rCell l c)) (k' := N) (sm := .dma l.recvS)
      (fun K => (wpE_waitDma2_eq 𝒱₀ (c : Thread nD τ) none Set.univ K).trans (congrArg (fun n => waitSpec (c : Thread nD τ) Set.univ (.dma l.recvS) n K) hN))
      (Set.mem_univ _) () (O := owed c (rem (time (.R l)))) (W := Wd) (R := 0) (m := 0) (T := ∅)
      ((Nat.zero_add _).trans (expect_recv I c l).symm)) $$ [Hcred HO Hat]
  · isplitr; · iexact HIs
    isplitl [Hcred]; · iexact Hcred
    isplitl [HO]; · iexact HO
    isplitr; · iexact Hmw
    iexact Hat
  iintro ⟨HO, Hat, -, Hpay⟩
  ihave Hc := (Entails.of_eq (rest_recv I c l)) $$ Hpay
  ihave Hf := (src_fill (I := I) (c := c) l) $$ [Hsrc Hc]
  · isplitl [Hsrc]; · iexact Hsrc
    iexact Hc
  icases Hf with ⟨Hsrc, Hkc⟩
  ihave HR := HRb $$ Hat
  ihave Hk := Hkb $$ Hkc
  iapply h
  isplitr; · iexact Hrec
  isplitl [HO]; · iexists _; iexact HO
  isplitl [Hins]; · iexact Hins
  isplitl [Hout]; · iexact Hout
  isplitl [HS]; · iexact HS
  isplitl [HR]; · iexact HR
  isplitl [Hsrc]; · iexact Hsrc
  iexact Hk

end Cert.KernelIdeal.Scatter

end
-- ==== Proof.StepsVal.lean ====
/-
  The steps of a device that compute: its loads, and its stores into a send chunk and into the result.
-/
module

public import proofs.«01_k».proof.Proof.StepsComm

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Inp F} {κ : GSem nD τ sig → ℕ} {f₀ : Vec F S2x512x2048 .f32} {c : Dev nD} {t : ℕ}
  {α : Type}

/-! ## Parts of the state, lent and given back -/

/-- The operands, lent by the state. -/
theorem St_ins : St I κ f₀ c t ⊢ iprop(ins I c ∗ (ins I c -∗ St I κ f₀ c t)) := by
  unfold St
  iintro ⟨#Hrec, How, Hins, Hout, HS, HR, Hsrc, Hk⟩
  isplitl [Hins]; · iexact Hins
  iintro Hins
  isplitr; · iexact Hrec
  isplitl [How]; · iexact How
  isplitl [Hins]; · iexact Hins
  isplitl [Hout]; · iexact Hout
  isplitl [HS]; · iexact HS
  isplitl [HR]; · iexact HR
  isplitl [Hsrc]; · iexact Hsrc
  iexact Hk

/-- The result, stepped or not: any step that only touches it. -/
theorem St_out_to (t' : ℕ) (hr : rem t' = rem t) (h₁ : (sendSt c t : Link → sProp 𝕄) = sendSt c t') (h₂ : (recvSt c t : Link → sProp 𝕄) = recvSt c t')
    (h₃ : srcSt I c t = srcSt I c t') (h₄ : keepSt I c t = keepSt I c t') :
    St I κ f₀ c t ⊢ iprop(outP c (outAt I c f₀ t) ∗ (outP c (outAt I c f₀ t') -∗ St I κ f₀ c t')) := by
  unfold St
  rw [hr, h₁, h₂, h₃, h₄]
  iintro ⟨#Hrec, How, Hins, Hout, HS, HR, Hsrc, Hk⟩
  isplitl [Hout]; · iexact Hout
  iintro Hout
  isplitr; · iexact Hrec
  isplitl [How]; · iexact How
  isplitl [Hins]; · iexact Hins
  isplitl [Hout]; · iexact Hout
  isplitl [HS]; · iexact HS
  isplitl [HR]; · iexact HR
  isplitl [Hsrc]; · iexact Hsrc
  iexact Hk

/-- The result, lent by the state. -/
theorem St_out : St I κ f₀ c t ⊢ iprop(outP c (outAt I c f₀ t) ∗ (outP c (outAt I c f₀ t) -∗ St I κ f₀ c t)) :=
  St_out_to t rfl rfl rfl rfl rfl

/-- The result, lent for the store of an own product. -/
theorem St_out_own (q : Fin 4) (b : Fin 2) :
    St I κ f₀ c (time (.O q b)) ⊢ iprop(outP c (outAt I c f₀ (time (.O q b))) ∗ (outP c (outAt I c f₀ (time (.O q b) + 1)) -∗ St I κ f₀ c (time (.O q b) + 1))) :=
  have h := fams_other (F := F) I c (e := .O q b) (fun _ h => Ev.noConfusion h) (fun _ h => Ev.noConfusion h) (fun _ h => Ev.noConfusion h) (fun _ _ h => Ev.noConfusion h)
  St_out_to _ (rem_other fun _ h => Ev.noConfusion h) h.1 h.2.1 h.2.2.1 h.2.2.2

/-- The result, lent for an addition. -/
theorem St_out_add (d k : Fin 4) (b : Fin 2) :
    St I κ f₀ c (time (.A d k b)) ⊢ iprop(outP c (outAt I c f₀ (time (.A d k b))) ∗ (outP c (outAt I c f₀ (time (.A d k b) + 1)) -∗ St I κ f₀ c (time (.A d k b) + 1))) :=
  have h := fams_other (F := F) I c (e := .A d k b) (fun _ h => Ev.noConfusion h) (fun _ h => Ev.noConfusion h) (fun _ h => Ev.noConfusion h) (fun _ _ h => Ev.noConfusion h)
  St_out_to _ (rem_other fun _ h => Ev.noConfusion h) h.1 h.2.1 h.2.2.1 h.2.2.2

/-- The kept part of a landed chunk, lent by the state. -/
theorem St_keep (l : Link) (h : time (.R l) < t) : St I κ f₀ c t ⊢ iprop(keepC I c l ∗ (keepC I c l -∗ St I κ f₀ c t)) := by
  unfold St
  iintro ⟨#Hrec, How, Hins, Hout, HS, HR, Hsrc, Hk⟩
  ihave Hk' := (fam_step' (Φ := keepSt I c t) (Ψ := keepSt I c t) l (fun _ _ => rfl) (keepSt_after I c l t h) (keepSt_after I c l t h)) $$ Hk
  icases Hk' with ⟨Hkl, Hkb⟩
  isplitl [Hkl]; · iexact Hkl
  iintro Hkl
  ihave Hk := Hkb $$ Hkl
  isplitr; · iexact Hrec
  isplitl [How]; · iexact How
  isplitl [Hins]; · iexact Hins
  isplitl [Hout]; · iexact Hout
  isplitl [HS]; · iexact HS
  isplitl [HR]; · iexact HR
  isplitl [Hsrc]; · iexact Hsrc
  iexact Hk

/-- A source, lent. -/
theorem St_src (l : Link) : St I κ f₀ c t ⊢ iprop(srcSt I c t l ∗ (srcSt I c t l -∗ St I κ f₀ c t)) := by
  unfold St
  iintro ⟨#Hrec, How, Hins, Hout, HS, HR, Hsrc, Hk⟩
  ihave Hk' := (fam_step (Φ := srcSt I c t) (Ψ := srcSt I c t) l (fun _ _ => rfl)) $$ Hsrc
  icases Hk' with ⟨Hkl, Hkb⟩
  isplitl [Hkl]; · iexact Hkl
  iintro Hkl
  ihave Hsrc := Hkb $$ Hkl
  isplitr; · iexact Hrec
  isplitl [How]; · iexact How
  isplitl [Hins]; · iexact Hins
  isplitl [Hout]; · iexact Hout
  isplitl [HS]; · iexact HS
  isplitl [HR]; · iexact HR
  isplitl [Hsrc]; · iexact Hsrc
  iexact Hk

/-- A send chunk, lent to be filled one row further. -/
theorem St_fill (k : Fin 4) (b : Fin 2) :
    St I κ f₀ c (time (.X k b)) ⊢ iprop(srcSt I c (time (.X k b)) (.x k)
      ∗ (srcSt I c (time (.X k b) + 1) (.x k) -∗ St I κ f₀ c (time (.X k b) + 1))) := by
  unfold St
  rw [← (funext fun l' => recvSt_other c l' (e := .X k b) (fun h => Ev.noConfusion h) : (recvSt c (time (.X k b)) : Link → sProp 𝕄) = _),
    ← (funext fun l' => sendSt_other c l' (e := .X k b) (fun h => Ev.noConfusion h) (fun h => Ev.noConfusion h) : (sendSt c (time (.X k b)) : Link → sProp 𝕄) = _),
    ← (funext fun l' => keepSt_other I c l' (e := .X k b) (fun h => Ev.noConfusion h) : (keepSt I c (time (.X k b)) : Link → sProp 𝕄) = _),
    outAt_other I c f₀ (e := .X k b) (fun _ _ h => Ev.noConfusion h) (fun _ _ _ h => Ev.noConfusion h),
    rem_other (e := .X k b) (fun _ h => Ev.noConfusion h)]
  iintro ⟨#Hrec, How, Hins, Hout, HS, HR, Hsrc, Hk⟩
  ihave Hk' := (fam_step (Φ := srcSt I c (time (.X k b))) (Ψ := srcSt I c (time (.X k b) + 1)) (.x k) (fun l' hl' =>
    srcSt_other I c l' (fun h => Ev.noConfusion h) (fun h => Ev.noConfusion h) (fun _ _ h => Ev.noConfusion h)
      (fun k' b' e h => hl' (by rw [e, (Ev.X.inj h).1])))) $$ Hsrc
  icases Hk' with ⟨Hkl, Hkb⟩
  isplitl [Hkl]; · iexact Hkl
  iintro Hkl
  ihave Hsrc := Hkb $$ Hkl
  isplitr; · iexact Hrec
  isplitl [How]; · iexact How
  isplitl [Hins]; · iexact Hins
  isplitl [Hout]; · iexact Hout
  isplitl [HS]; · iexact HS
  isplitl [HR]; · iexact HR
  isplitl [Hsrc]; · iexact Hsrc
  iexact Hk

/-- The source of a first copy after the first batch is stored. -/
theorem srcSt_fill0 (k : Fin 4) : (srcSt I c (time (.X k 0) + 1) (.x k) : sProp 𝕄)
    = iprop(∃ V, chunk (chk xsend k) c fullShare (setRow V 0 (sentRow I c k 0))) := by
  rw [← X0_lt_X1]; exact srcSt_X1 I c k

/-- While it is filled a send chunk is held whole. -/
theorem srcSt_any (k : Fin 4) (b : Fin 2) : (srcSt I c (time (.X k b)) (.x k) : sProp 𝕄) ⊢ iprop(∃ V, chunk (chk xsend k) c fullShare V
    ∗ (chunk (chk xsend k) c fullShare V -∗ srcSt I c (time (.X k b)) (.x k))) := by
  obtain h | h : b = 0 ∨ b = 1 := by omega
  · subst h
    rw [srcSt_X0]
    unfold chunkAny
    iintro ⟨%V, H⟩
    iexists V
    isplitl [H]; · iexact H
    iintro H; iexists V; iexact H
  · subst h
    rw [srcSt_X1]
    iintro ⟨%V, H⟩
    iexists (setRow V 0 (sentRow I c k 0))
    isplitl [H]; · iexact H
    iintro H; iexists V; iexact H

/-- Storing a row fills a send chunk one row further. -/
theorem srcSt_next (k : Fin 4) (b : Fin 2) : (srcSt I c (time (.X k b)) (.x k) : sProp 𝕄) ⊢ iprop(∃ V, chunk (chk xsend k) c fullShare V
    ∗ (chunk (chk xsend k) c fullShare (setRow V b (sentRow I c k b)) -∗ srcSt I c (time (.X k b) + 1) (.x k))) := by
  obtain h | h : b = 0 ∨ b = 1 := by omega
  · subst h
    rw [srcSt_X0, srcSt_fill0]
    unfold chunkAny
    iintro ⟨%V, H⟩
    iexists V
    isplitl [H]; · iexact H
    iintro H; iexists V; iexact H
  · subst h
    rw [srcSt_X1, srcSt_X2]
    iintro ⟨%V, H⟩
    iexists (setRow V 0 (sentRow I c k 0))
    isplitl [H]; · iexact H
    iintro H
    ihave H := (Entails.of_eq (show chunk (chk xsend k) c fullShare (setRow (setRow V 0 (sentRow I c k 0)) 1 (sentRow I c k 1)) = srcC I c (.x k) by
      rw [setRow_both]; rfl)) $$ H
    iexact H

end Cert.KernelIdeal.Scatter

end
-- ==== Proof.StepsOp.lean ====
/-
  The loads and stores of the program, each as one step of a device's run.
-/
module

public import proofs.«01_k».proof.Proof.StepsVal

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F]

local notation "𝕄" => MT nD τ sig Unit (Elt F) ℕ UU ℕ

variable {I : Inp F} {κ : GSem nD τ sig → ℕ} {f₀ : Vec F S2x512x2048 .f32} {c : Dev nD} {t : ℕ}
  {α : Type}

/-- The program `P` of device `c` runs to `Q`. -/
abbrev Run (c : Dev nD) (P : Prog (TpuEff nD τ sig (Elt F) Λ₀ .tc) α) (Q : α → sProp (MT nD τ sig Unit (Elt F) ℕ UU ℕ)) :
    sProp (MT nD τ sig Unit (Elt F) ℕ UU ℕ) :=
  wp frame (wpE (defs₀ (F := F)) 𝒱₀ (c : Thread nD τ) none) Set.univ P Q

/-! ## The staged operands -/

/-- A step that loads from the left operand. -/
theorem step_loadO {Q : α → sProp (MT nD τ sig Unit (Elt F) ℕ UU ℕ)} {r : LoadRect S2x1024x1024} {hl : oM.view.LoadsAt r}
    {k : (r.shape.Idx → Elt F .f32) → Prog (TpuEff nD τ sig (Elt F) Λ₀ .tc) α}
    (h : St I κ f₀ c t ⊢ Run c (k (oM.view.readAt (Elt F) r (oM.view.rep (I.O c)))) Q) :
    St I κ f₀ c t ⊢ Run c (.op (.load oM r hl) k) Q := by
  unfold Run at h ⊢
  iintro H
  ihave H := St_ins $$ H
  unfold ins
  icases H with ⟨⟨HO, HW⟩, Hb⟩
  iapply (wp_load 𝒱₀ (c : Thread nD τ) none Set.univ (m := oM) (View.setOn_subset_set _ _)) $$ HO
  iintro HO
  iapply h
  iapply Hb
  isplitl [HO]; · iexact HO
  iexact HW

/-- The load of the rows that go into chunk `kk` of what is sent. -/
theorem step_sentWin {Q : α → sProp (MT nD τ sig Unit (Elt F) ℕ UU ℕ)} (kk : Fin 4) (b : Fin 2) {off : Fin 3 → ℕ}
    {inb : ∀ a, off a + S1x32x1024.size a ≤ S2x1024x1024.size a} (hoff : off = ![b.val, oth c + 128 * qt c + 32 * kk.val, 0])
    {hl : oM.view.LoadsAt (Rect.unit (s := S2x1024x1024) off S1x32x1024.size inb).toLoadRect}
    {k : Vec F S1x32x1024 .f32 → Prog (TpuEff nD τ sig (Elt F) Λ₀ .tc) α}
    (h : St I κ f₀ c t ⊢ Run c (k (sentWin I c kk b)) Q) :
    St I κ f₀ c t ⊢ Run c (.op (.load oM (Rect.unit (s := S2x1024x1024) off S1x32x1024.size inb).toLoadRect hl) k) Q :=
  step_loadO (by
    have e := View.readAt_rep_unit (Val := Elt F) oM.view (I.O c) inb hoff (inb_send c kk b)
    exact (congrArg (fun v => St I κ f₀ c t ⊢ Run c (k v) Q) e).mpr h)

/-- The load of the rows of quarter `q` that are kept. -/
theorem step_ownWin {Q : α → sProp (MT nD τ sig Unit (Elt F) ℕ UU ℕ)} (q : Fin 4) (b : Fin 2) {off : Fin 3 → ℕ}
    {inb : ∀ a, off a + S1x128x1024.size a ≤ S2x1024x1024.size a} (hoff : off = ![b.val, own c + 128 * q.val, 0])
    {hl : oM.view.LoadsAt (Rect.unit (s := S2x1024x1024) off S1x128x1024.size inb).toLoadRect}
    {k : Vec F S1x128x1024 .f32 → Prog (TpuEff nD τ sig (Elt F) Λ₀ .tc) α}
    (h : St I κ f₀ c t ⊢ Run c (k (ownWin I c q b)) Q) :
    St I κ f₀ c t ⊢ Run c (.op (.load oM (Rect.unit (s := S2x1024x1024) off S1x128x1024.size inb).toLoadRect hl) k) Q :=
  step_loadO (by
    have e := View.readAt_rep_unit (Val := Elt F) oM.view (I.O c) inb hoff (inb_own c q b)
    exact (congrArg (fun v => St I κ f₀ c t ⊢ Run c (k v) Q) e).mpr h)

/-- The load of the weights. -/
theorem step_loadW {Q : α → sProp (MT nD τ sig Unit (Elt F) ℕ UU ℕ)} {off : Fin 2 → ℕ} {inb : ∀ a, off a + S1024x2048.size a ≤ S1024x2048.size a}
    {hl : wM.view.LoadsAt (Rect.unit (s := S1024x2048) off S1024x2048.size inb).toLoadRect}
    {k : Vec F S1024x2048 .f32 → Prog (TpuEff nD τ sig (Elt F) Λ₀ .tc) α}
    (h : St I κ f₀ c t ⊢ Run c (k (I.W c)) Q) :
    St I κ f₀ c t ⊢ Run c (.op (.load wM (Rect.unit (s := S1024x2048) off S1024x2048.size inb).toLoadRect hl) k) Q := by
  have e := View.readAt_rep_full (Val := Elt F) wM.view (I.W c) inb
  have h := (congrArg (fun v => St I κ f₀ c t ⊢ Run c (k v) Q) e).mpr h
  unfold Run at h ⊢
  iintro H
  ihave H := St_ins $$ H
  unfold ins
  icases H with ⟨⟨HO, HW⟩, Hb⟩
  iapply (wp_load 𝒱₀ (c : Thread nD τ) none Set.univ (m := wM) (View.setOn_subset_set _ _)) $$ HW
  iintro HW
  iapply h
  iapply Hb
  isplitl [HO]; · iexact HO
  iexact HW

/-! ## The send chunks -/

/-- One batch's part of a chunk lies inside the buffer. -/
theorem inb_row {n : ℕ} (k : Fin n) (b : Fin 2) : ∀ a, (![k.val, b.val, 0, 0] : Fin 4 → ℕ) a + S1x1x32x2048.size a ≤ (SN n).size a := by
  intro a
  match a with
  | ⟨0, _⟩ => show k.val + 1 ≤ n; omega
  | ⟨1, _⟩ => show b.val + 1 ≤ 2; omega
  | ⟨2, _⟩ => show 0 + 32 ≤ 32; omega
  | ⟨3, _⟩ => show 0 + 2048 ≤ 2048; omega

/-- The load of a send chunk's row before it is stored: what it holds does not matter. -/
theorem step_loadX {Q : α → sProp (MT nD τ sig Unit (Elt F) ℕ UU ℕ)} (kk : Fin 4) (b : Fin 2) (ht : t = time (.X kk b))
    {inb : ∀ a, (![kk.val, b.val, 0, 0] : Fin 4 → ℕ) a + S1x1x32x2048.size a ≤ (SN 4).size a}
    {hl : xsend.view.LoadsAt (Rect.unit (s := SN 4) ![kk.val, b.val, 0, 0] S1x1x32x2048.size inb).toLoadRect}
    {k : Vec F S1x1x32x2048 .f32 → Prog (TpuEff nD τ sig (Elt F) Λ₀ .tc) α}
    (h : ∀ v, St I κ f₀ c t ⊢ Run c (k v) Q) :
    St I κ f₀ c t ⊢ Run c (.op (.load xsend (Rect.unit (s := SN 4) ![kk.val, b.val, 0, 0] S1x1x32x2048.size inb).toLoadRect hl) k) Q := by
  subst ht
  unfold Run at h ⊢
  iintro H
  ihave H := (St_src (Link.x kk)) $$ H
  icases H with ⟨Hs, Hb⟩
  ihave Hs := (srcSt_any kk b) $$ Hs
  unfold chunk
  icases Hs with ⟨%V, Hs, Hsb⟩
  iapply (wp_load_rect 𝒱₀ (c : Thread nD τ) none Set.univ (m := xsend) (row_load_sub xsend kk b inb)) $$ Hs
  iintro Hs
  iapply (h _)
  iapply Hb
  iapply Hsb
  iexact Hs

/-- The store of a send chunk's row. -/
theorem step_storeX {Q : α → sProp (MT nD τ sig Unit (Elt F) ℕ UU ℕ)} (kk : Fin 4) (b : Fin 2) (ht : t = time (.X kk b))
    {inb : ∀ a, (![kk.val, b.val, 0, 0] : Fin 4 → ℕ) a + S1x1x32x2048.size a ≤ (SN 4).size a}
    {w : Vec F S1x1x32x2048 .f32} (hw : w = sentRow I c kk b)
    {hx : (xsend.access (Rect.unit (s := SN 4) ![kk.val, b.val, 0, 0] S1x1x32x2048.size inb)).Stores Finset.univ}
    {hm : Finset.univ = Finset.univ ∨ ∀ a, (Rect.unit (s := SN 4) ![kk.val, b.val, 0, 0] S1x1x32x2048.size inb).stride a = 1}
    {k : PUnit → Prog (TpuEff nD τ sig (Elt F) Λ₀ .tc) α}
    (h : St I κ f₀ c (t + 1) ⊢ Run c (k ⟨⟩) Q) :
    St I κ f₀ c t ⊢ Run c (.op (.store xsend (Rect.unit (s := SN 4) ![kk.val, b.val, 0, 0] S1x1x32x2048.size inb) w Finset.univ hx hm) k) Q := by
  subst ht hw
  unfold Run at h ⊢
  iintro H
  ihave H := (St_fill kk b) $$ H
  icases H with ⟨Hs, Hb⟩
  ihave Hs := (srcSt_next kk b) $$ Hs
  icases Hs with ⟨%V, Hs, Hsb⟩
  ihave Hs := (show chunk (chk xsend kk) c fullShare V ⊢ ((xsend.access (Rect.unit (s := SN 4) ![kk.val, b.val, 0, 0] S1x1x32x2048.size inb)).loc (c : Thread nD τ)
    ↦[(chk xsend kk).view.set]{fullShare} (chk xsend kk).view.rep V : sProp 𝕄) from .rfl) $$ Hs
  iapply (wp_store 𝒱₀ (c : Thread nD τ) none Set.univ (m := xsend) (row_store_sub xsend kk b inb)) $$ Hs
  iintro Hs
  iapply h
  iapply Hb
  iapply Hsb
  iapply (chunk_of_read (chk xsend kk) c fullShare _ _ (row_store xsend kk b inb V (sentRow I c kk b)))
  iexact Hs

/-! ## The landed chunks -/

/-- The load of a landed chunk's row. -/
theorem step_row {Q : α → sProp (MT nD τ sig Unit (Elt F) ℕ UU ℕ)} {n : ℕ} (B : Memref sig .tc .vmem (SN n) .f32) (kk : Fin n) (b : Fin 2) (l : Link)
    (hM : l.dstM = chk B kk) (ht : time (.R l) < t) {V : Vec F S2x32x2048 .f32} (hV : land I l c = V)
    {inb : ∀ a, (![kk.val, b.val, 0, 0] : Fin 4 → ℕ) a + S1x1x32x2048.size a ≤ (SN n).size a}
    {hl : B.view.LoadsAt (Rect.unit (s := SN n) ![kk.val, b.val, 0, 0] S1x1x32x2048.size inb).toLoadRect}
    {k : Vec F S1x1x32x2048 .f32 → Prog (TpuEff nD τ sig (Elt F) Λ₀ .tc) α}
    (h : St I κ f₀ c t ⊢ Run c (k (rowOf V b)) Q) :
    St I κ f₀ c t ⊢ Run c (.op (.load B (Rect.unit (s := SN n) ![kk.val, b.val, 0, 0] S1x1x32x2048.size inb).toLoadRect hl) k) Q := by
  have e := row_load B kk b inb V
  have h := (congrArg (fun v => St I κ f₀ c t ⊢ Run c (k v) Q) e).mpr h
  have hk : keepC I c l = chunk (chk B kk) c (keepQ l) V := by unfold keepC; rw [hM, hV]
  have hs := St_keep (I := I) (κ := κ) (f₀ := f₀) (c := c) l ht
  rw [hk] at hs
  unfold Run at h ⊢
  iintro H
  ihave H := hs $$ H
  unfold chunk
  icases H with ⟨Hs, Hb⟩
  iapply (wp_load_rect 𝒱₀ (c : Thread nD τ) none Set.univ (m := B) (row_load_sub B kk b inb)) $$ Hs
  iintro Hs
  iapply h
  iapply Hb
  iexact Hs

/-! ## The result -/

/-- A load from the result whose value is not used. -/
theorem step_loadOut {Q : α → sProp (MT nD τ sig Unit (Elt F) ℕ UU ℕ)} {r : LoadRect S2x512x2048} {hl : outM.view.LoadsAt r}
    {k : (r.shape.Idx → Elt F .f32) → Prog (TpuEff nD τ sig (Elt F) Λ₀ .tc) α}
    (h : ∀ v, St I κ f₀ c t ⊢ Run c (k v) Q) :
    St I κ f₀ c t ⊢ Run c (.op (.load outM r hl) k) Q := by
  unfold Run at h ⊢
  iintro H
  ihave H := St_out $$ H
  unfold outP
  icases H with ⟨HO, Hb⟩
  iapply (wp_load 𝒱₀ (c : Thread nD τ) none Set.univ (m := outM) (View.setOn_subset_set _ _)) $$ HO
  iintro HO
  iapply (h _)
  iapply Hb
  iexact HO

/-- The load of what an addition adds to. -/
theorem step_addWin {Q : α → sProp (MT nD τ sig Unit (Elt F) ℕ UU ℕ)} (d kk : Fin 4) (b : Fin 2) (ht : t = time (.A d kk b)) {off : Fin 3 → ℕ}
    {inb : ∀ a, off a + S1x32x2048.size a ≤ S2x512x2048.size a} (hoff : off = ![b.val, 128 * qt (dd d c) + 32 * kk.val, 0])
    {hl : outM.view.LoadsAt (Rect.unit (s := S2x512x2048) off S1x32x2048.size inb).toLoadRect}
    {k : Vec F S1x32x2048 .f32 → Prog (TpuEff nD τ sig (Elt F) Λ₀ .tc) α}
    (h : St I κ f₀ c t ⊢ Run c (k (addWin I c f₀ d kk b)) Q) :
    St I κ f₀ c t ⊢ Run c (.op (.load outM (Rect.unit (s := S2x512x2048) off S1x32x2048.size inb).toLoadRect hl) k) Q := by
  subst ht
  have e := View.readAt_rep_unit (Val := Elt F) outM.view (outAt I c f₀ (time (.A d kk b))) inb hoff (inb_add c d kk b)
  have h := (congrArg (fun v => St I κ f₀ c (time (.A d kk b)) ⊢ Run c (k v) Q) e).mpr h
  unfold Run at h ⊢
  iintro H
  ihave H := St_out $$ H
  unfold outP
  icases H with ⟨HO, Hb⟩
  iapply (wp_load 𝒱₀ (c : Thread nD τ) none Set.univ (m := outM) (View.setOn_subset_set _ _)) $$ HO
  iintro HO
  iapply h
  iapply Hb
  iexact HO

/-- A store through a memref, read back. -/
theorem read_store {sh : Shape} (m : Memref sig .tc .vmem sh .f32) (x : Vec F sh .f32) {off off' size : Fin sh.rank → ℕ}
    (inb : ∀ a, off a + size a ≤ sh.size a) (w : (Rect.unit off size inb).shape.Idx → Elt F .f32) (h : off = off') :
    m.view.read (Elt F) ((m.access (Rect.unit off size inb)).write (Elt F) (m.view.rep x) w Finset.univ) = VecWindow.put x off' size w :=
  View.read_writes_rep_unit (Val := Elt F) m.view x inb w h

/-- A store at a rectangle of a memref held whole puts the stored value there. -/
theorem wp_put {Q : α → sProp (MT nD τ sig Unit (Elt F) ℕ UU ℕ)} {sh : Shape} (m : Memref sig .tc .vmem sh .f32) (x : Vec F sh .f32) {off off' size : Fin sh.rank → ℕ}
    (inb : ∀ a, off a + size a ≤ sh.size a) (w : (Rect.unit off size inb).shape.Idx → Elt F .f32) (ho : off = off')
    {hx : (m.access (Rect.unit off size inb)).Stores Finset.univ}
    {hm : Finset.univ = Finset.univ ∨ ∀ a, (Rect.unit off size inb).stride a = 1}
    {k : PUnit → Prog (TpuEff nD τ sig (Elt F) Λ₀ .tc) α} :
    (m.view.loc (c : Thread nD τ) ↦[m.view.set]{fullShare} m.view.rep x : sProp 𝕄)
      ⊢ iprop(((m.view.loc (c : Thread nD τ) ↦[m.view.set]{fullShare} m.view.rep (VecWindow.put x off' size w)) -∗ Run c (k ⟨⟩) Q)
        -∗ Run c (.op (.store m (Rect.unit off size inb) w Finset.univ hx hm) k) Q) := by
  have hr := pointsTo_rep_of_read (Name := ℕ) (U := UU) (Ix := Unit) (Lvl := ℕ) (c : Thread nD τ) m _ fullShare _ (read_store m x inb w ho)
  unfold Run
  iintro H Hk
  iapply (wp_store 𝒱₀ (c : Thread nD τ) none Set.univ (m := m) (r := Rect.unit off size inb) (f := m.view.rep x)
    ((View.setOn_subset_set _ _).trans (View.set_slice_subset m.view (Rect.unit off size inb)))) $$ H
  iintro H
  iapply Hk
  iapply hr
  iexact H

/-- The store of an own product. -/
theorem step_storeOwn {Q : α → sProp (MT nD τ sig Unit (Elt F) ℕ UU ℕ)} (q : Fin 4) (b : Fin 2) (ht : t = time (.O q b)) {off : Fin 3 → ℕ}
    {inb : ∀ a, off a + S1x128x2048.size a ≤ S2x512x2048.size a} (hoff : off = ![b.val, 128 * q.val, 0])
    {w : Vec F S1x128x2048 .f32} (hw : w = ownRow I c q b)
    {hx : (outM.access (Rect.unit (s := S2x512x2048) off S1x128x2048.size inb)).Stores Finset.univ}
    {hm : Finset.univ = Finset.univ ∨ ∀ a, (Rect.unit (s := S2x512x2048) off S1x128x2048.size inb).stride a = 1}
    {k : PUnit → Prog (TpuEff nD τ sig (Elt F) Λ₀ .tc) α}
    (h : St I κ f₀ c (t + 1) ⊢ Run c (k ⟨⟩) Q) :
    St I κ f₀ c t ⊢ Run c (.op (.store outM (Rect.unit (s := S2x512x2048) off S1x128x2048.size inb) w Finset.univ hx hm) k) Q := by
  subst ht hw
  have e := outAt_own I c f₀ q b
  iintro H
  ihave H := (St_out_own q b) $$ H
  unfold outP
  icases H with ⟨HO, Hb⟩
  iapply (wp_put outM _ inb _ hoff) $$ HO
  iintro HO
  ihave HO := (Entails.of_eq (congrArg (fun V : Vec F S2x512x2048 .f32 =>
    (outM.view.loc (c : Thread nD τ) ↦[outM.view.set]{fullShare} outM.view.rep V : sProp 𝕄)) e)) $$ HO
  iapply h
  iapply Hb
  iexact HO

/-- The store of an addition. -/
theorem step_storeAdd {Q : α → sProp (MT nD τ sig Unit (Elt F) ℕ UU ℕ)} (d kk : Fin 4) (b : Fin 2) (ht : t = time (.A d kk b)) {off : Fin 3 → ℕ}
    {inb : ∀ a, off a + S1x32x2048.size a ≤ S2x512x2048.size a} (hoff : off = ![b.val, 128 * qt (dd d c) + 32 * kk.val, 0])
    {w : Vec F S1x32x2048 .f32} (hw : w = k0_pay21 (addWin I c f₀ d kk b) (rowOf (VX I (xn (dd d c)) kk) b))
    {hx : (outM.access (Rect.unit (s := S2x512x2048) off S1x32x2048.size inb)).Stores Finset.univ}
    {hm : Finset.univ = Finset.univ ∨ ∀ a, (Rect.unit (s := S2x512x2048) off S1x32x2048.size inb).stride a = 1}
    {k : PUnit → Prog (TpuEff nD τ sig (Elt F) Λ₀ .tc) α}
    (h : St I κ f₀ c (t + 1) ⊢ Run c (k ⟨⟩) Q) :
    St I κ f₀ c t ⊢ Run c (.op (.store outM (Rect.unit (s := S2x512x2048) off S1x32x2048.size inb) w Finset.univ hx hm) k) Q := by
  subst ht hw
  have e := outAt_add I c f₀ d kk b
  iintro H
  ihave H := (St_out_add d kk b) $$ H
  unfold outP
  icases H with ⟨HO, Hb⟩
  iapply (wp_put outM _ inb _ hoff) $$ HO
  iintro HO
  ihave HO := (Entails.of_eq (congrArg (fun V : Vec F S2x512x2048 .f32 =>
    (outM.view.loc (c : Thread nD τ) ↦[outM.view.set]{fullShare} outM.view.rep V : sProp 𝕄)) e)) $$ HO
  iapply h
  iapply Hb
  iexact HO

/-! ## What the additions add -/

/-- What lands across the first axis. -/
theorem land_x (kk : Fin 4) : land I (.x kk) c = VX I (xn (dd 0 c)) kk := rfl
/-- What lands along the second axis. -/
theorem land_yd (kk : Fin 4) : land I (.yd kk) c = VX I (xn (dd 1 c)) kk := rfl
/-- What lands along the third axis. -/
theorem land_zd (kk : Fin 4) : land I (.zd kk) c = VX I (xn (dd 2 c)) kk := rfl
/-- The second and the third coordinate may be flipped in either order. -/
theorem yz_comm : ∀ c : Dev nD, zn (yn c) = yn (zn c) := by decide
/-- What lands forwarded along the second axis. -/
theorem land_yf (j : Fin 2) : land I (.yf j) c = VX I (xn (dd 3 c)) (Link.lo j) :=
  congrArg (fun c' => VX I (xn c') (Link.lo j)) (yz_comm c)
/-- What lands forwarded along the third axis. -/
theorem land_zf (j : Fin 2) : land I (.zf j) c = VX I (xn (dd 3 c)) (Link.up j) := rfl

/-- A part's end. -/
theorem run_pure {Q : α → sProp (MT nD τ sig Unit (Elt F) ℕ UU ℕ)} {P : sProp (MT nD τ sig Unit (Elt F) ℕ UU ℕ)} {a : α} (h : P ⊢ Q a) :
    P ⊢ Run c (.ret a) Q := by
  unfold Run
  rw [wp_ret]
  iintro H
  imodintro
  iapply h
  iexact H

end Cert.KernelIdeal.Scatter

end
-- ==== Proof.BodyArgs.lean ====
/-
  The program's parts at the launch's own operands, and how the runs of two parts compose.
-/
module

public import proofs.«01_k».proof.Proof.StepsOp
public import proofs.«01_k».proof.Proof.Gen.KernelIdeal.Skeleton

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F]

local notation "𝕄" => MT nD τ sig Unit (Elt F) ℕ UU ℕ

/-- A part of the program at the staged operands, the scratch stacks and the semaphores. -/
@[reducible] def onArgs {R : Type 1} (f : (arg0 : Memref sig .tc .vmem S2x1024x1024 .f32) → arg0.IsWhole → (arg1 : Memref sig .tc .vmem S1024x2048 .f32) → arg1.IsWhole
    → (arg2 : Memref sig .tc .vmem S2x512x2048 .f32) → arg2.IsWhole → (arg3 : Memref sig .tc .vmem S4x2x32x2048 .f32) → arg3.IsWhole
    → (arg4 : Memref sig .tc .vmem S4x2x32x2048 .f32) → arg4.IsWhole → (arg5 : Memref sig .tc .vmem S4x2x32x2048 .f32) → arg5.IsWhole
    → (arg6 : Memref sig .tc .vmem S4x2x32x2048 .f32) → arg6.IsWhole → (arg7 : Memref sig .tc .vmem S2x2x32x2048 .f32) → arg7.IsWhole
    → (arg8 : Memref sig .tc .vmem S2x2x32x2048 .f32) → arg8.IsWhole → DmaSems sig S4 → DmaSems sig S4 → DmaSems sig S4 → DmaSems sig S4
    → DmaSems sig S4 → DmaSems sig S4 → DmaSems sig S2 → DmaSems sig S2 → DmaSems sig S2 → DmaSems sig S2 → R) : R :=
  f oM (Memref.isWhole_whole _) wM (Memref.isWhole_whole _) outM (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15

variable {c : Dev nD} {α β : Type}

/-- Two runs in a row, the first one handing on a fact about its result. -/
theorem run_bind {A : Prog (TpuEff nD τ sig (Elt F) Λ₀ .tc) β} {k : β → Prog (TpuEff nD τ sig (Elt F) Λ₀ .tc) α} {φ : β → Prop}
    {P P' : sProp (MT nD τ sig Unit (Elt F) ℕ UU ℕ)} {Q : α → sProp (MT nD τ sig Unit (Elt F) ℕ UU ℕ)}
    (hA : P ⊢ Run c A (fun r => iprop(⌜φ r⌝ ∗ P'))) (hk : ∀ r, φ r → P' ⊢ Run c (k r) Q) : P ⊢ Run c (A >>= k) Q := by
  unfold Run at hA hk ⊢
  rw [wp_bind]
  refine hA.trans (wp_mono _ _ _ fun r => ?_)
  iintro ⟨%h, H⟩
  iapply (hk r h)
  iexact H

/-- A part ends with its value and its state. -/
theorem run_end {P : sProp (MT nD τ sig Unit (Elt F) ℕ UU ℕ)} {a : α} {φ : α → Prop} (h : φ a) :
    P ⊢ Run c (.ret a) (fun r => iprop(⌜φ r⌝ ∗ P)) := by
  refine run_pure ?_
  iintro H
  isplitr
  · ipureintro; exact h
  iexact H

variable {I : Inp F} {κ : GSem nD τ sig → ℕ} {f₀ : Vec F S2x512x2048 .f32}

/-- Every copy's source counts the same amount. -/
theorem src_amount (l : Link) : l.srcM.view.dmaCredit = N := by cases l <;> rfl

variable {t : ℕ}

/-- A row of a send chunk: its rows of the operand and the weights are loaded, and their product is stored. -/
theorem step_sent {Q : α → sProp (MT nD τ sig Unit (Elt F) ℕ UU ℕ)} (kk : Fin 4) (b : Fin 2) (ht : t = time (.X kk b)) {off : Fin 3 → ℕ}
    {inb : ∀ a, off a + S1x32x1024.size a ≤ S2x1024x1024.size a} (hoff : off = ![b.val, oth c + 128 * qt c + 32 * kk.val, 0])
    {P : Vec F S1x32x1024 .f32 → Vec F S1024x2048 .f32 → Vec F S1x1x32x2048 .f32} (hP : ∀ v w, P v w = k0_pay1 v w)
    {hl : oM.view.LoadsAt (Rect.unit (s := S2x1024x1024) off S1x32x1024.size inb).toLoadRect}
    {off' : Fin 2 → ℕ} {inb' : ∀ a, off' a + S1024x2048.size a ≤ S1024x2048.size a}
    {hl' : wM.view.LoadsAt (Rect.unit (s := S1024x2048) off' S1024x2048.size inb').toLoadRect}
    {inx : ∀ a, (![kk.val, b.val, 0, 0] : Fin 4 → ℕ) a + S1x1x32x2048.size a ≤ (SN 4).size a}
    {hl'' : xsend.view.LoadsAt (Rect.unit (s := SN 4) ![kk.val, b.val, 0, 0] S1x1x32x2048.size inx).toLoadRect}
    {hx : (xsend.access (Rect.unit (s := SN 4) ![kk.val, b.val, 0, 0] S1x1x32x2048.size inx)).Stores Finset.univ}
    {hm : Finset.univ = Finset.univ ∨ ∀ a, (Rect.unit (s := SN 4) ![kk.val, b.val, 0, 0] S1x1x32x2048.size inx).stride a = 1}
    {k : PUnit → Prog (TpuEff nD τ sig (Elt F) Λ₀ .tc) α} (h : St I κ f₀ c (t + 1) ⊢ Run c (k ⟨⟩) Q) :
    St I κ f₀ c t ⊢ Run c (.op (.load oM (Rect.unit (s := S2x1024x1024) off S1x32x1024.size inb).toLoadRect hl) fun v =>
      .op (.load wM (Rect.unit (s := S1024x2048) off' S1024x2048.size inb').toLoadRect hl') fun w =>
      .op (.load xsend (Rect.unit (s := SN 4) ![kk.val, b.val, 0, 0] S1x1x32x2048.size inx).toLoadRect hl'') fun _ =>
      .op (.store xsend (Rect.unit (s := SN 4) ![kk.val, b.val, 0, 0] S1x1x32x2048.size inx) (P v w) Finset.univ hx hm) k) Q :=
  step_sentWin kk b hoff (step_loadW (step_loadX kk b ht fun _ => step_storeX kk b ht (hP _ _) h))

/-- An own product of the result. -/
theorem step_own {Q : α → sProp (MT nD τ sig Unit (Elt F) ℕ UU ℕ)} (q : Fin 4) (b : Fin 2) (ht : t = time (.O q b)) {off : Fin 3 → ℕ}
    {inb : ∀ a, off a + S1x128x1024.size a ≤ S2x1024x1024.size a} (hoff : off = ![b.val, own c + 128 * q.val, 0])
    {P : Vec F S1x128x1024 .f32 → Vec F S1024x2048 .f32 → Vec F S1x128x2048 .f32}
    {offo : Fin 3 → ℕ} (hoffo : offo = ![b.val, 128 * q.val, 0]) (hP : ∀ v w, P v w = k0_pay11 v w)
    {hl : oM.view.LoadsAt (Rect.unit (s := S2x1024x1024) off S1x128x1024.size inb).toLoadRect}
    {off' : Fin 2 → ℕ} {inb' : ∀ a, off' a + S1024x2048.size a ≤ S1024x2048.size a}
    {hl' : wM.view.LoadsAt (Rect.unit (s := S1024x2048) off' S1024x2048.size inb').toLoadRect}
    {ino : ∀ a, offo a + S1x128x2048.size a ≤ S2x512x2048.size a}
    {hl'' : outM.view.LoadsAt (Rect.unit (s := S2x512x2048) offo S1x128x2048.size ino).toLoadRect}
    {hx : (outM.access (Rect.unit (s := S2x512x2048) offo S1x128x2048.size ino)).Stores Finset.univ}
    {hm : Finset.univ = Finset.univ ∨ ∀ a, (Rect.unit (s := S2x512x2048) offo S1x128x2048.size ino).stride a = 1}
    {k : PUnit → Prog (TpuEff nD τ sig (Elt F) Λ₀ .tc) α} (h : St I κ f₀ c (t + 1) ⊢ Run c (k ⟨⟩) Q) :
    St I κ f₀ c t ⊢ Run c (.op (.load oM (Rect.unit (s := S2x1024x1024) off S1x128x1024.size inb).toLoadRect hl) fun v =>
      .op (.load wM (Rect.unit (s := S1024x2048) off' S1024x2048.size inb').toLoadRect hl') fun w =>
      .op (.load outM (Rect.unit (s := S2x512x2048) offo S1x128x2048.size ino).toLoadRect hl'') fun _ =>
      .op (.store outM (Rect.unit (s := S2x512x2048) offo S1x128x2048.size ino) (P v w) Finset.univ hx hm) k) Q :=
  step_ownWin q b hoff (step_loadW (step_loadOut fun _ => step_storeOwn q b ht hoffo (hP _ _) h))

/-- A landed row added to the result. -/
theorem step_add {Q : α → sProp (MT nD τ sig Unit (Elt F) ℕ UU ℕ)} (d kk : Fin 4) (b : Fin 2)
    {n : ℕ} (B : Memref sig .tc .vmem (SN n) .f32) (kb : Fin n) (l : Link) (hM : l.dstM = chk B kb)
    (ht : t = time (.A d kk b)) (hR : time (.R l) < t) (hV : land I l c = VX I (xn (dd d c)) kk) {off : Fin 3 → ℕ}
    {inb : ∀ a, off a + S1x32x2048.size a ≤ S2x512x2048.size a} (hoff : off = ![b.val, 128 * qt (dd d c) + 32 * kk.val, 0])
    {P : Vec F S1x32x2048 .f32 → Vec F S1x1x32x2048 .f32 → Vec F S1x32x2048 .f32} (hP : ∀ v w, P v w = k0_pay21 v w)
    {hl : outM.view.LoadsAt (Rect.unit (s := S2x512x2048) off S1x32x2048.size inb).toLoadRect}
    {inx : ∀ a, (![kb.val, b.val, 0, 0] : Fin 4 → ℕ) a + S1x1x32x2048.size a ≤ (SN n).size a}
    {hl' : B.view.LoadsAt (Rect.unit (s := SN n) ![kb.val, b.val, 0, 0] S1x1x32x2048.size inx).toLoadRect}
    {hl'' : outM.view.LoadsAt (Rect.unit (s := S2x512x2048) off S1x32x2048.size inb).toLoadRect}
    {hx : (outM.access (Rect.unit (s := S2x512x2048) off S1x32x2048.size inb)).Stores Finset.univ}
    {hm : Finset.univ = Finset.univ ∨ ∀ a, (Rect.unit (s := S2x512x2048) off S1x32x2048.size inb).stride a = 1}
    {k : PUnit → Prog (TpuEff nD τ sig (Elt F) Λ₀ .tc) α} (h : St I κ f₀ c (t + 1) ⊢ Run c (k ⟨⟩) Q) :
    St I κ f₀ c t ⊢ Run c (.op (.load outM (Rect.unit (s := S2x512x2048) off S1x32x2048.size inb).toLoadRect hl) fun v =>
      .op (.load B (Rect.unit (s := SN n) ![kb.val, b.val, 0, 0] S1x1x32x2048.size inx).toLoadRect hl') fun w =>
      .op (.load outM (Rect.unit (s := S2x512x2048) off S1x32x2048.size inb).toLoadRect hl'') fun _ =>
      .op (.store outM (Rect.unit (s := S2x512x2048) off S1x32x2048.size inb) (P v w) Finset.univ hx hm) k) Q := by
  exact step_addWin d kk b ht hoff (step_row B kb b l hM hR hV (step_loadOut fun _ => step_storeAdd d kk b ht hoff (hP _ _) h))

end Cert.KernelIdeal.Scatter

end
-- ==== Proof.BodySend.lean ====
/-
  The runs of the program's parts: the products that are sent, the first copies and the own products.
-/
module

public import proofs.«01_k».proof.Proof.BodyArgs

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F]

local notation "𝕄" => MT nD τ sig Unit (Elt F) ℕ UU ℕ

variable {I : Inp F} {κ : GSem nD τ sig → ℕ} {f₀ : Vec F S2x512x2048 .f32} {c : Dev nD}

/-- Part 3 of the body runs steps 1 to 2. -/
theorem part3 (v5 v8 v9 v46 : BitVec 32) {v60 : FVec F S32x1024 .f32} (hv60 : v60 = k0_pay2 (sentWin I c 0 1)) {v61 : Vec F S1024x2048 .f32} (hv61 : v61 = I.W c) :
    St I κ f₀ c 1 ⊢ Run c (onArgs (k0_part3 (F := F)) c v5 v8 v9 v46 v60 v61) (fun r => iprop(⌜r = k0_pay4 (sentWin I c 1 0) (I.W c)⌝ ∗ St I κ f₀ c 3)) := by
  subst hv60 hv61
  rw [k0_part3_eq_skeleton]
  unfold k0_part3_skel onArgs
  simp only [Prog.lift, Prog.bind_op, Prog.bind_ret, Prog.pure_eq_ret]
  refine step_loadX (F := F) 0 1 rfl (fun _ => ?_)
  refine step_storeX (F := F) 0 1 rfl rfl ?_
  refine step_send (F := F) (.x 0) _ (dev4_eq c) rfl ?_
  refine step_sentWin (F := F) 1 0 (off1_eq c 1) ?_
  refine step_loadW (F := F) ?_
  refine step_loadX (F := F) 1 0 rfl (fun _ => ?_)
  exact run_end rfl

/-- Part 4 of the body runs steps 3 to 5. -/
theorem part4 (v5 v8 v9 v46 : BitVec 32) {v90 : FVec F S1x1x32x2048 .f32} (hv90 : v90 = k0_pay4 (sentWin I c 1 0) (I.W c)) :
    St I κ f₀ c 3 ⊢ Run c (onArgs (k0_part4 (F := F)) c v5 v8 v9 v46 v90) (fun r => iprop(⌜r = k0_pay6 (sentWin I c 2 0)⌝ ∗ St I κ f₀ c 6)) := by
  subst hv90
  rw [k0_part4_eq_skeleton]
  unfold k0_part4_skel onArgs
  simp only [Prog.lift, Prog.bind_op, Prog.bind_ret, Prog.pure_eq_ret]
  refine step_storeX (F := F) 1 0 rfl rfl ?_
  refine step_sent (F := F) 1 1 rfl (off2_eq c 1) (fun _ _ => rfl) ?_
  refine step_send (F := F) (.x 1) _ (dev5_eq c) rfl ?_
  refine step_sentWin (F := F) 2 0 (off1_eq c 2) ?_
  exact run_end rfl

/-- Part 5 of the body runs steps 6 to 7. -/
theorem part5 (v5 v8 v9 v46 : BitVec 32) {v118 : FVec F S32x1024 .f32} (hv118 : v118 = k0_pay6 (sentWin I c 2 0)) :
    St I κ f₀ c 6 ⊢ Run c (onArgs (k0_part5 (F := F)) c v5 v8 v9 v46 v118) (fun r => iprop(⌜True⌝ ∗ St I κ f₀ c 8)) := by
  subst hv118
  rw [k0_part5_eq_skeleton]
  unfold k0_part5_skel onArgs
  simp only [Prog.lift, Prog.bind_op, Prog.bind_ret, Prog.pure_eq_ret]
  refine step_loadW (F := F) ?_
  refine step_loadX (F := F) 2 0 rfl (fun _ => ?_)
  refine step_storeX (F := F) 2 0 rfl rfl ?_
  refine step_sent (F := F) 2 1 rfl (off2_eq c 2) (fun _ _ => rfl) ?_
  exact run_end trivial

/-- Part 6 of the body runs steps 8 to 10. -/
theorem part6 (v5 v8 v9 v46 : BitVec 32) :
    St I κ f₀ c 8 ⊢ Run c (onArgs (k0_part6 (F := F)) c v5 v8 v9 v46) (fun r => iprop(⌜True⌝ ∗ St I κ f₀ c 11)) := by
  rw [k0_part6_eq_skeleton]
  unfold k0_part6_skel onArgs
  simp only [Prog.lift, Prog.bind_op, Prog.bind_ret, Prog.pure_eq_ret]
  refine step_send (F := F) (.x 2) _ (dev6_eq c) rfl ?_
  refine step_sent (F := F) 3 0 rfl (off1_eq c 3) (fun _ _ => rfl) ?_
  refine step_sent (F := F) 3 1 rfl (off2_eq c 3) (fun _ _ => rfl) ?_
  exact run_end trivial

/-- Part 7 of the body runs steps 11 to 12. -/
theorem part7 (v2 v5 v8 v9 v10 : BitVec 32) :
    St I κ f₀ c 11 ⊢ Run c (onArgs (k0_part7 (F := F)) c v2 v5 v8 v9 v10) (fun r => iprop(⌜True⌝ ∗ St I κ f₀ c 13)) := by
  rw [k0_part7_eq_skeleton]
  unfold k0_part7_skel onArgs
  simp only [Prog.lift, Prog.bind_op, Prog.bind_ret, Prog.pure_eq_ret]
  refine step_send (F := F) (.x 3) _ (dev7_eq c) rfl ?_
  refine step_recv (F := F) (.x 0) rfl (dst_amount (.x 0)) ?_
  exact run_end trivial

/-- Part 8 of the body runs steps 13 to 15. -/
theorem part8 (v2 v5 v11 v183 : BitVec 32) :
    St I κ f₀ c 13 ⊢ Run c (onArgs (k0_part8 (F := F)) c v2 v5 v11 v183) (fun r => iprop(⌜True⌝ ∗ St I κ f₀ c 16)) := by
  rw [k0_part8_eq_skeleton]
  unfold k0_part8_skel onArgs
  simp only [Prog.lift, Prog.bind_op, Prog.bind_ret, Prog.pure_eq_ret]
  refine step_send (F := F) (.yd 0) _ (dev8_eq c) rfl ?_
  refine step_send (F := F) (.zd 0) _ (dev9_eq c) rfl ?_
  refine step_own (F := F) 0 0 rfl (off3_eq c 0) rfl (fun _ _ => rfl) ?_
  exact run_end trivial

/-- Part 9 of the body runs steps 16 to 17. -/
theorem part9 (v2 v5 v8 v9 v10 v183 : BitVec 32) :
    St I κ f₀ c 16 ⊢ Run c (onArgs (k0_part9 (F := F)) c v2 v5 v8 v9 v10 v183) (fun r => iprop(⌜True⌝ ∗ St I κ f₀ c 18)) := by
  rw [k0_part9_eq_skeleton]
  unfold k0_part9_skel onArgs
  simp only [Prog.lift, Prog.bind_op, Prog.bind_ret, Prog.pure_eq_ret]
  refine step_own (F := F) 0 1 rfl (off4_eq c 0) rfl (fun _ _ => rfl) ?_
  refine step_recv (F := F) (.x 1) rfl (dst_amount (.x 1)) ?_
  exact run_end trivial

/-- Part 10 of the body runs steps 18 to 19. -/
theorem part10 (v2 v5 v11 v183 v259 v260 : BitVec 32) :
    St I κ f₀ c 18 ⊢ Run c (onArgs (k0_part10 (F := F)) c v2 v5 v11 v183 v259 v260) (fun r => iprop(⌜r = k0_pay13 (ownWin I c 1 0) (I.W c)⌝ ∗ St I κ f₀ c 20)) := by
  rw [k0_part10_eq_skeleton]
  unfold k0_part10_skel onArgs
  simp only [Prog.lift, Prog.bind_op, Prog.bind_ret, Prog.pure_eq_ret]
  refine step_send (F := F) (.yd 1) _ (dev10_eq c) rfl ?_
  refine step_send (F := F) (.zd 1) _ (dev11_eq c) rfl ?_
  refine step_ownWin (F := F) 1 0 (off3_eq c 1) ?_
  refine step_loadW (F := F) ?_
  exact run_end rfl

/-- Part 11 of the body runs steps 20 to 22. -/
theorem part11 (v2 v5 v8 v9 v183 : BitVec 32) {v290 : FVec F S128x2048 .f32} (hv290 : v290 = k0_pay13 (ownWin I c 1 0) (I.W c)) :
    St I κ f₀ c 20 ⊢ Run c (onArgs (k0_part11 (F := F)) c v2 v5 v8 v9 v183 v290) (fun r => iprop(⌜True⌝ ∗ St I κ f₀ c 23)) := by
  subst hv290
  rw [k0_part11_eq_skeleton]
  unfold k0_part11_skel onArgs
  simp only [Prog.lift, Prog.bind_op, Prog.bind_ret, Prog.pure_eq_ret]
  refine step_loadOut (F := F) (fun _ => ?_)
  refine step_storeOwn (F := F) 1 0 rfl rfl rfl ?_
  refine step_own (F := F) 1 1 rfl (off4_eq c 1) rfl (fun _ _ => rfl) ?_
  refine step_recv (F := F) (.x 2) rfl (dst_amount (.x 2)) ?_
  exact run_end trivial

/-- Part 12 of the body runs steps 23 to 24. -/
theorem part12 (v2 v5 v8 v10 v11 v183 v317 : BitVec 32) :
    St I κ f₀ c 23 ⊢ Run c (onArgs (k0_part12 (F := F)) c v2 v5 v8 v10 v11 v183 v317) (fun r => iprop(⌜r.1 = k0_pay16 (ownWin I c 2 0) ∧ r.2 = I.W c⌝ ∗ St I κ f₀ c 25)) := by
  rw [k0_part12_eq_skeleton]
  unfold k0_part12_skel onArgs
  simp only [Prog.lift, Prog.bind_op, Prog.bind_ret, Prog.pure_eq_ret]
  refine step_send (F := F) (.yd 2) _ (dev12_eq c) rfl ?_
  refine step_send (F := F) (.zd 2) _ (dev13_eq c) rfl ?_
  refine step_ownWin (F := F) 2 0 (off3_eq c 2) ?_
  refine step_loadW (F := F) ?_
  exact run_end ⟨rfl, rfl⟩

/-- Part 13 of the body runs steps 25 to 27. -/
theorem part13 (v5 v8 v9 v183 : BitVec 32) {v347 : FVec F S128x1024 .f32} (hv347 : v347 = k0_pay16 (ownWin I c 2 0)) {v348 : Vec F S1024x2048 .f32} (hv348 : v348 = I.W c) :
    St I κ f₀ c 25 ⊢ Run c (onArgs (k0_part13 (F := F)) c v5 v8 v9 v183 v347 v348) (fun r => iprop(⌜True⌝ ∗ St I κ f₀ c 28)) := by
  subst hv347 hv348
  rw [k0_part13_eq_skeleton]
  unfold k0_part13_skel onArgs
  simp only [Prog.lift, Prog.bind_op, Prog.bind_ret, Prog.pure_eq_ret]
  refine step_loadOut (F := F) (fun _ => ?_)
  refine step_storeOwn (F := F) 2 0 rfl rfl rfl ?_
  refine step_own (F := F) 2 1 rfl (off4_eq c 2) rfl (fun _ _ => rfl) ?_
  refine step_recv (F := F) (.x 3) rfl (dst_amount (.x 3)) ?_
  exact run_end trivial

/-- Part 14 of the body runs steps 28 to 29. -/
theorem part14 (v2 v5 v8 v10 v11 v183 : BitVec 32) :
    St I κ f₀ c 28 ⊢ Run c (onArgs (k0_part14 (F := F)) c v2 v5 v8 v10 v11 v183) (fun r => iprop(⌜True⌝ ∗ St I κ f₀ c 30)) := by
  rw [k0_part14_eq_skeleton]
  unfold k0_part14_skel onArgs
  simp only [Prog.lift, Prog.bind_op, Prog.bind_ret, Prog.pure_eq_ret]
  refine step_send (F := F) (.yd 3) _ (dev14_eq c) rfl ?_
  refine step_send (F := F) (.zd 3) _ (dev15_eq c) rfl ?_
  exact run_end trivial

/-- Part 15 of the body runs steps 30 to 31. -/
theorem part15 (v2 v5 v11 v183 : BitVec 32) :
    St I κ f₀ c 30 ⊢ Run c (onArgs (k0_part15 (F := F)) c v2 v5 v11 v183) (fun r => iprop(⌜True⌝ ∗ St I κ f₀ c 32)) := by
  rw [k0_part15_eq_skeleton]
  unfold k0_part15_skel onArgs
  simp only [Prog.lift, Prog.bind_op, Prog.bind_ret, Prog.pure_eq_ret]
  refine step_own (F := F) 3 0 rfl (off3_eq c 3) rfl (fun _ _ => rfl) ?_
  refine step_own (F := F) 3 1 rfl (off4_eq c 3) rfl (fun _ _ => rfl) ?_
  exact run_end trivial

end Cert.KernelIdeal.Scatter

end
-- ==== Proof.BodyPass.lean ====
/-
  The runs of the program's parts: the passed-on copies and the additions of the first two directions.
-/
module

public import proofs.«01_k».proof.Proof.BodySend

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F]

local notation "𝕄" => MT nD τ sig Unit (Elt F) ℕ UU ℕ

variable {I : Inp F} {κ : GSem nD τ sig → ℕ} {f₀ : Vec F S2x512x2048 .f32} {c : Dev nD}

/-- Part 16 of the body runs steps 32 to 34. -/
theorem part16 (v2 v5 v8 v10 v11 : BitVec 32) :
    St I κ f₀ c 32 ⊢ Run c (onArgs (k0_part16 (F := F)) c v2 v5 v8 v10 v11) (fun r => iprop(⌜True⌝ ∗ St I κ f₀ c 35)) := by
  rw [k0_part16_eq_skeleton]
  unfold k0_part16_skel onArgs
  simp only [Prog.lift, Prog.bind_op, Prog.bind_ret, Prog.pure_eq_ret]
  refine step_recv (F := F) (.zd 0) rfl (dst_amount (.zd 0)) ?_
  refine step_send (F := F) (.yf 0) _ (dev16_eq c) rfl ?_
  refine step_recv (F := F) (.zd 1) rfl (dst_amount (.zd 1)) ?_
  exact run_end trivial

/-- Part 17 of the body runs steps 35 to 36. -/
theorem part17 (v2 v8 v10 : BitVec 32) :
    St I κ f₀ c 35 ⊢ Run c (onArgs (k0_part17 (F := F)) c v2 v8 v10) (fun r => iprop(⌜True⌝ ∗ St I κ f₀ c 37)) := by
  rw [k0_part17_eq_skeleton]
  unfold k0_part17_skel onArgs
  simp only [Prog.lift, Prog.bind_op, Prog.bind_ret, Prog.pure_eq_ret]
  refine step_send (F := F) (.yf 1) _ (dev17_eq c) rfl ?_
  refine step_recv (F := F) (.yd 2) rfl (dst_amount (.yd 2)) ?_
  exact run_end trivial

/-- Part 18 of the body runs steps 37 to 38. -/
theorem part18 (v2 v5 v8 v10 v11 v488 : BitVec 32) :
    St I κ f₀ c 37 ⊢ Run c (onArgs (k0_part18 (F := F)) c v2 v5 v8 v10 v11 v488) (fun r => iprop(⌜True⌝ ∗ St I κ f₀ c 39)) := by
  rw [k0_part18_eq_skeleton]
  unfold k0_part18_skel onArgs
  simp only [Prog.lift, Prog.bind_op, Prog.bind_ret, Prog.pure_eq_ret]
  refine step_send (F := F) (.zf 0) _ (dev18_eq c) rfl ?_
  refine step_recv (F := F) (.yd 3) rfl (dst_amount (.yd 3)) ?_
  exact run_end trivial

/-- Part 19 of the body runs steps 39 to 40. -/
theorem part19 (v11 v13 v515 v516 : BitVec 32) :
    St I κ f₀ c 39 ⊢ Run c (onArgs (k0_part19 (F := F)) c v11 v13 v515 v516) (fun r => iprop(⌜r = k0_pay22 (addWin I c f₀ 0 0 1) (rowOf (VX I (xn (dd 0 c)) 0) 1)⌝ ∗ St I κ f₀ c 41)) := by
  rw [k0_part19_eq_skeleton]
  unfold k0_part19_skel onArgs
  simp only [Prog.lift, Prog.bind_op, Prog.bind_ret, Prog.pure_eq_ret]
  refine step_send (F := F) (.zf 1) _ (dev19_eq c) rfl ?_
  refine step_add (F := F) 0 0 0 xrecv 0 (.x 0) rfl rfl (by decide) (land_x 0) (off5_eq c 0) (fun _ _ => rfl) ?_
  refine step_addWin (F := F) 0 0 1 rfl (off6_eq c 0) ?_
  refine step_row (F := F) xrecv 0 1 (.x 0) rfl (by decide) (land_x 0) ?_
  exact run_end rfl

/-- Part 20 of the body runs steps 41 to 43. -/
theorem part20 (v13 : BitVec 32) {v547 : FVec F S32x2048 .f32} (hv547 : v547 = k0_pay22 (addWin I c f₀ 0 0 1) (rowOf (VX I (xn (dd 0 c)) 0) 1)) :
    St I κ f₀ c 41 ⊢ Run c (onArgs (k0_part20 (F := F)) c v13 v547) (fun r => iprop(⌜r.2 = k0_pay26 (addWin I c f₀ 0 2 0)⌝ ∗ St I κ f₀ c 44)) := by
  subst hv547
  rw [k0_part20_eq_skeleton]
  unfold k0_part20_skel onArgs
  simp only [Prog.lift, Prog.bind_op, Prog.bind_ret, Prog.pure_eq_ret]
  refine step_loadOut (F := F) (fun _ => ?_)
  refine step_storeAdd (F := F) 0 0 1 rfl (off6_eq c 0) rfl ?_
  refine step_add (F := F) 0 1 0 xrecv 1 (.x 1) rfl rfl (by decide) (land_x 1) (off5_eq c 1) (fun _ _ => rfl) ?_
  refine step_add (F := F) 0 1 1 xrecv 1 (.x 1) rfl rfl (by decide) (land_x 1) (off6_eq c 1) (fun _ _ => rfl) ?_
  refine step_addWin (F := F) 0 2 0 rfl (off5_eq c 2) ?_
  exact run_end rfl

/-- Part 21 of the body runs steps 44 to 46. -/
theorem part21 (v13 v577 : BitVec 32) {v580 : FVec F S32x2048 .f32} (hv580 : v580 = k0_pay26 (addWin I c f₀ 0 2 0)) :
    St I κ f₀ c 44 ⊢ Run c (onArgs (k0_part21 (F := F)) c v13 v577 v580) (fun r => iprop(⌜True⌝ ∗ St I κ f₀ c 47)) := by
  subst hv580
  rw [k0_part21_eq_skeleton]
  unfold k0_part21_skel onArgs
  simp only [Prog.lift, Prog.bind_op, Prog.bind_ret, Prog.pure_eq_ret]
  refine step_row (F := F) xrecv 2 0 (.x 2) rfl (by decide) (land_x 2) ?_
  refine step_loadOut (F := F) (fun _ => ?_)
  refine step_storeAdd (F := F) 0 2 0 rfl (off5_eq c 2) rfl ?_
  refine step_add (F := F) 0 2 1 xrecv 2 (.x 2) rfl rfl (by decide) (land_x 2) (off6_eq c 2) (fun _ _ => rfl) ?_
  refine step_add (F := F) 0 3 0 xrecv 3 (.x 3) rfl rfl (by decide) (land_x 3) (off5_eq c 3) (fun _ _ => rfl) ?_
  exact run_end trivial

/-- Part 22 of the body runs steps 47 to 48. -/
theorem part22 (v2 v5 v11 v13 : BitVec 32) :
    St I κ f₀ c 47 ⊢ Run c (onArgs (k0_part22 (F := F)) c v2 v5 v11 v13) (fun r => iprop(⌜True⌝ ∗ St I κ f₀ c 49)) := by
  rw [k0_part22_eq_skeleton]
  unfold k0_part22_skel onArgs
  simp only [Prog.lift, Prog.bind_op, Prog.bind_ret, Prog.pure_eq_ret]
  refine step_add (F := F) 0 3 1 xrecv 3 (.x 3) rfl rfl (by decide) (land_x 3) (off6_eq c 3) (fun _ _ => rfl) ?_
  refine step_recv (F := F) (.zd 2) rfl (dst_amount (.zd 2)) ?_
  exact run_end trivial

/-- Part 23 of the body runs steps 49 to 50. -/
theorem part23 (v2 v8 v10 v11 v637 v638 : BitVec 32) :
    St I κ f₀ c 49 ⊢ Run c (onArgs (k0_part23 (F := F)) v2 v8 v10 v11 v637 v638) (fun r => iprop(⌜True⌝ ∗ St I κ f₀ c 51)) := by
  rw [k0_part23_eq_skeleton]
  unfold k0_part23_skel onArgs
  simp only [Prog.lift, Prog.bind_op, Prog.bind_ret, Prog.pure_eq_ret]
  refine step_recv (F := F) (.zd 3) rfl (dst_amount (.zd 3)) ?_
  refine step_recv (F := F) (.yd 0) rfl (dst_amount (.yd 0)) ?_
  exact run_end trivial

/-- Part 24 of the body runs steps 51 to 53. -/
theorem part24 (v16 : BitVec 32) :
    St I κ f₀ c 51 ⊢ Run c (onArgs (k0_part24 (F := F)) c v16) (fun r => iprop(⌜True⌝ ∗ St I κ f₀ c 54)) := by
  rw [k0_part24_eq_skeleton]
  unfold k0_part24_skel onArgs
  simp only [Prog.lift, Prog.bind_op, Prog.bind_ret, Prog.pure_eq_ret]
  refine step_recv (F := F) (.yd 1) rfl (dst_amount (.yd 1)) ?_
  refine step_add (F := F) 1 0 0 ydrecv 0 (.yd 0) rfl rfl (by decide) (land_yd 0) (off7_eq c 0) (fun _ _ => rfl) ?_
  refine step_add (F := F) 1 0 1 ydrecv 0 (.yd 0) rfl rfl (by decide) (land_yd 0) (off8_eq c 0) (fun _ _ => rfl) ?_
  exact run_end trivial

/-- Part 25 of the body runs steps 54 to 55. -/
theorem part25 (v16 v696 c32_i32_662 : BitVec 32) :
    St I κ f₀ c 54 ⊢ Run c (onArgs (k0_part25 (F := F)) c v16 v696 c32_i32_662) (fun r => iprop(⌜r.2 = k0_pay35 (addWin I c f₀ 1 2 0) (rowOf (VX I (xn (dd 1 c)) 2) 0)⌝ ∗ St I κ f₀ c 56)) := by
  rw [k0_part25_eq_skeleton]
  unfold k0_part25_skel onArgs
  simp only [Prog.lift, Prog.bind_op, Prog.bind_ret, Prog.pure_eq_ret]
  refine step_add (F := F) 1 1 0 ydrecv 1 (.yd 1) rfl rfl (by decide) (land_yd 1) (off7_eq c 1) (fun _ _ => rfl) ?_
  refine step_add (F := F) 1 1 1 ydrecv 1 (.yd 1) rfl rfl (by decide) (land_yd 1) (off8_eq c 1) (fun _ _ => rfl) ?_
  refine step_addWin (F := F) 1 2 0 rfl (off7_eq c 2) ?_
  refine step_row (F := F) ydrecv 2 0 (.yd 2) rfl (by decide) (land_yd 2) ?_
  exact run_end rfl

/-- Part 26 of the body runs steps 56 to 58. -/
theorem part26 (v16 v721 : BitVec 32) {v727 : FVec F S32x2048 .f32} (hv727 : v727 = k0_pay35 (addWin I c f₀ 1 2 0) (rowOf (VX I (xn (dd 1 c)) 2) 0)) :
    St I κ f₀ c 56 ⊢ Run c (onArgs (k0_part26 (F := F)) c v16 v721 v727) (fun r => iprop(⌜r.2 = addWin I c f₀ 1 3 1⌝ ∗ St I κ f₀ c 59)) := by
  subst hv727
  rw [k0_part26_eq_skeleton]
  unfold k0_part26_skel onArgs
  simp only [Prog.lift, Prog.bind_op, Prog.bind_ret, Prog.pure_eq_ret]
  refine step_loadOut (F := F) (fun _ => ?_)
  refine step_storeAdd (F := F) 1 2 0 rfl (off7_eq c 2) rfl ?_
  refine step_add (F := F) 1 2 1 ydrecv 2 (.yd 2) rfl rfl (by decide) (land_yd 2) (off8_eq c 2) (fun _ _ => rfl) ?_
  refine step_add (F := F) 1 3 0 ydrecv 3 (.yd 3) rfl rfl (by decide) (land_yd 3) (off7_eq c 3) (fun _ _ => rfl) ?_
  refine step_addWin (F := F) 1 3 1 rfl (off8_eq c 3) ?_
  exact run_end rfl

end Cert.KernelIdeal.Scatter

end
-- ==== Proof.BodyAdd.lean ====
/-
  The runs of the program's parts: the additions of the last two directions, and the waits for the sent copies.
-/
module

public import proofs.«01_k».proof.Proof.BodyPass

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F]

local notation "𝕄" => MT nD τ sig Unit (Elt F) ℕ UU ℕ

variable {I : Inp F} {κ : GSem nD τ sig → ℕ} {f₀ : Vec F S2x512x2048 .f32} {c : Dev nD}

/-- Part 27 of the body runs steps 59 to 60. -/
theorem part27 (v19 v757 : BitVec 32) {v759 : Vec F S1x32x2048 .f32} (hv759 : v759 = addWin I c f₀ 1 3 1) :
    St I κ f₀ c 59 ⊢ Run c (onArgs (k0_part27 (F := F)) c v19 v757 v759) (fun r => iprop(⌜r = k0_pay41 (addWin I c f₀ 2 0 1) (rowOf (VX I (xn (dd 2 c)) 0) 1)⌝ ∗ St I κ f₀ c 61)) := by
  subst hv759
  rw [k0_part27_eq_skeleton]
  unfold k0_part27_skel onArgs
  simp only [Prog.lift, Prog.bind_op, Prog.bind_ret, Prog.pure_eq_ret]
  refine step_row (F := F) ydrecv 3 1 (.yd 3) rfl (by decide) (land_yd 3) ?_
  refine step_loadOut (F := F) (fun _ => ?_)
  refine step_storeAdd (F := F) 1 3 1 rfl (off8_eq c 3) rfl ?_
  refine step_add (F := F) 2 0 0 zdrecv 0 (.zd 0) rfl rfl (by decide) (land_zd 0) (off9_eq c 0) (fun _ _ => rfl) ?_
  refine step_addWin (F := F) 2 0 1 rfl (off10_eq c 0) ?_
  refine step_row (F := F) zdrecv 0 1 (.zd 0) rfl (by decide) (land_zd 0) ?_
  refine step_addWin (F := F) 2 0 1 rfl (off10_eq c 0) ?_
  exact run_end rfl

/-- Part 28 of the body runs steps 61 to 63. -/
theorem part28 (v19 : BitVec 32) {v791 : FVec F S1x32x2048 .f32} (hv791 : v791 = k0_pay41 (addWin I c f₀ 2 0 1) (rowOf (VX I (xn (dd 2 c)) 0) 1)) :
    St I κ f₀ c 61 ⊢ Run c (onArgs (k0_part28 (F := F)) c v19 v791) (fun r => iprop(⌜r.2 = k0_pay44 (addWin I c f₀ 2 2 0)⌝ ∗ St I κ f₀ c 64)) := by
  subst hv791
  rw [k0_part28_eq_skeleton]
  unfold k0_part28_skel onArgs
  simp only [Prog.lift, Prog.bind_op, Prog.bind_ret, Prog.pure_eq_ret]
  refine step_storeAdd (F := F) 2 0 1 rfl (off10_eq c 0) rfl ?_
  refine step_add (F := F) 2 1 0 zdrecv 1 (.zd 1) rfl rfl (by decide) (land_zd 1) (off9_eq c 1) (fun _ _ => rfl) ?_
  refine step_add (F := F) 2 1 1 zdrecv 1 (.zd 1) rfl rfl (by decide) (land_zd 1) (off10_eq c 1) (fun _ _ => rfl) ?_
  refine step_addWin (F := F) 2 2 0 rfl (off9_eq c 2) ?_
  exact run_end rfl

/-- Part 29 of the body runs steps 64 to 66. -/
theorem part29 (v19 v817 : BitVec 32) {v820 : FVec F S32x2048 .f32} (hv820 : v820 = k0_pay44 (addWin I c f₀ 2 2 0)) :
    St I κ f₀ c 64 ⊢ Run c (onArgs (k0_part29 (F := F)) c v19 v817 v820) (fun r => iprop(⌜True⌝ ∗ St I κ f₀ c 67)) := by
  subst hv820
  rw [k0_part29_eq_skeleton]
  unfold k0_part29_skel onArgs
  simp only [Prog.lift, Prog.bind_op, Prog.bind_ret, Prog.pure_eq_ret]
  refine step_row (F := F) zdrecv 2 0 (.zd 2) rfl (by decide) (land_zd 2) ?_
  refine step_loadOut (F := F) (fun _ => ?_)
  refine step_storeAdd (F := F) 2 2 0 rfl (off9_eq c 2) rfl ?_
  refine step_add (F := F) 2 2 1 zdrecv 2 (.zd 2) rfl rfl (by decide) (land_zd 2) (off10_eq c 2) (fun _ _ => rfl) ?_
  refine step_add (F := F) 2 3 0 zdrecv 3 (.zd 3) rfl rfl (by decide) (land_zd 3) (off9_eq c 3) (fun _ _ => rfl) ?_
  exact run_end trivial

/-- Part 30 of the body runs steps 67 to 68. -/
theorem part30 (v2 v8 v10 v23 v853 : BitVec 32) :
    St I κ f₀ c 67 ⊢ Run c (onArgs (k0_part30 (F := F)) c v2 v8 v10 v23 v853) (fun r => iprop(⌜r.2.1 = k0_pay49 (addWin I c f₀ 3 0 0) ∧ r.2.2 = rowOf (VX I (xn (dd 3 c)) 0) 0⌝ ∗ St I κ f₀ c 69)) := by
  rw [k0_part30_eq_skeleton]
  unfold k0_part30_skel onArgs
  simp only [Prog.lift, Prog.bind_op, Prog.bind_ret, Prog.pure_eq_ret]
  refine step_add (F := F) 2 3 1 zdrecv 3 (.zd 3) rfl rfl (by decide) (land_zd 3) (off10_eq c 3) (fun _ _ => rfl) ?_
  refine step_recv (F := F) (.yf 0) rfl (dst_amount (.yf 0)) ?_
  refine step_addWin (F := F) 3 0 0 rfl (off11_eq c 0) ?_
  refine step_row (F := F) yfrecv 0 0 (.yf 0) rfl (by decide) (land_yf 0) ?_
  exact run_end ⟨rfl, rfl⟩

/-- Part 31 of the body runs steps 69 to 71. -/
theorem part31 (v2 v8 v10 v23 v877 : BitVec 32) {v880 : FVec F S32x2048 .f32} (hv880 : v880 = k0_pay49 (addWin I c f₀ 3 0 0)) {v881 : Vec F S1x1x32x2048 .f32} (hv881 : v881 = rowOf (VX I (xn (dd 3 c)) 0) 0) :
    St I κ f₀ c 69 ⊢ Run c (onArgs (k0_part31 (F := F)) c v2 v8 v10 v23 v877 v880 v881) (fun r => iprop(⌜True⌝ ∗ St I κ f₀ c 72)) := by
  subst hv880 hv881
  rw [k0_part31_eq_skeleton]
  unfold k0_part31_skel onArgs
  simp only [Prog.lift, Prog.bind_op, Prog.bind_ret, Prog.pure_eq_ret]
  refine step_loadOut (F := F) (fun _ => ?_)
  refine step_storeAdd (F := F) 3 0 0 rfl (off11_eq c 0) rfl ?_
  refine step_add (F := F) 3 0 1 yfrecv 0 (.yf 0) rfl rfl (by decide) (land_yf 0) (off12_eq c 0) (fun _ _ => rfl) ?_
  refine step_recv (F := F) (.yf 1) rfl (dst_amount (.yf 1)) ?_
  exact run_end trivial

/-- Part 32 of the body runs steps 72 to 73. -/
theorem part32 (v2 v5 v11 v23 c128_i32_849 : BitVec 32) :
    St I κ f₀ c 72 ⊢ Run c (onArgs (k0_part32 (F := F)) c v2 v5 v11 v23 c128_i32_849) (fun r => iprop(⌜True⌝ ∗ St I κ f₀ c 74)) := by
  rw [k0_part32_eq_skeleton]
  unfold k0_part32_skel onArgs
  simp only [Prog.lift, Prog.bind_op, Prog.bind_ret, Prog.pure_eq_ret]
  refine step_add (F := F) 3 1 0 yfrecv 1 (.yf 1) rfl rfl (by decide) (land_yf 1) (off11_eq c 1) (fun _ _ => rfl) ?_
  refine step_add (F := F) 3 1 1 yfrecv 1 (.yf 1) rfl rfl (by decide) (land_yf 1) (off12_eq c 1) (fun _ _ => rfl) ?_
  exact run_end trivial

/-- Part 33 of the body runs steps 74 to 76. -/
theorem part33 (v23 : BitVec 32) :
    St I κ f₀ c 74 ⊢ Run c (onArgs (k0_part33 (F := F)) c v23) (fun r => iprop(⌜True⌝ ∗ St I κ f₀ c 77)) := by
  rw [k0_part33_eq_skeleton]
  unfold k0_part33_skel onArgs
  simp only [Prog.lift, Prog.bind_op, Prog.bind_ret, Prog.pure_eq_ret]
  refine step_recv (F := F) (.zf 0) rfl (dst_amount (.zf 0)) ?_
  refine step_add (F := F) 3 2 0 zfrecv 0 (.zf 0) rfl rfl (by decide) (land_zf 0) (off11_eq c 2) (fun _ _ => rfl) ?_
  refine step_add (F := F) 3 2 1 zfrecv 0 (.zf 0) rfl rfl (by decide) (land_zf 0) (off12_eq c 2) (fun _ _ => rfl) ?_
  exact run_end trivial

/-- Part 34 of the body runs steps 77 to 78. -/
theorem part34 (v2 v5 v11 v23 : BitVec 32) :
    St I κ f₀ c 77 ⊢ Run c (onArgs (k0_part34 (F := F)) c v2 v5 v11 v23) (fun r => iprop(⌜r.2 = k0_pay57 (addWin I c f₀ 3 3 1)⌝ ∗ St I κ f₀ c 79)) := by
  rw [k0_part34_eq_skeleton]
  unfold k0_part34_skel onArgs
  simp only [Prog.lift, Prog.bind_op, Prog.bind_ret, Prog.pure_eq_ret]
  refine step_recv (F := F) (.zf 1) rfl (dst_amount (.zf 1)) ?_
  refine step_add (F := F) 3 3 0 zfrecv 1 (.zf 1) rfl rfl (by decide) (land_zf 1) (off11_eq c 3) (fun _ _ => rfl) ?_
  refine step_addWin (F := F) 3 3 1 rfl (off12_eq c 3) ?_
  exact run_end rfl

/-- Part 35 of the body runs steps 79 to 81. -/
theorem part35 (v997 : BitVec 32) {v1000 : FVec F S32x2048 .f32} (hv1000 : v1000 = k0_pay57 (addWin I c f₀ 3 3 1)) :
    St I κ f₀ c 79 ⊢ Run c (onArgs (k0_part35 (F := F)) c v997 v1000) (fun r => iprop(⌜True⌝ ∗ St I κ f₀ c 82)) := by
  subst hv1000
  rw [k0_part35_eq_skeleton]
  unfold k0_part35_skel onArgs
  simp only [Prog.lift, Prog.bind_op, Prog.bind_ret, Prog.pure_eq_ret]
  refine step_row (F := F) zfrecv 1 1 (.zf 1) rfl (by decide) (land_zf 1) ?_
  refine step_loadOut (F := F) (fun _ => ?_)
  refine step_storeAdd (F := F) 3 3 1 rfl (off12_eq c 3) rfl ?_
  refine step_back (F := F) (.x 0) rfl (src_amount (.x 0)) ?_
  refine step_back (F := F) (.x 1) rfl (src_amount (.x 1)) ?_
  exact run_end trivial

/-- Part 36 of the body runs steps 82 to 85. -/
theorem part36 :
    St I κ f₀ c 82 ⊢ Run c (onArgs (k0_part36 (F := F))) (fun r => iprop(⌜True⌝ ∗ St I κ f₀ c 86)) := by
  rw [k0_part36_eq_skeleton]
  unfold k0_part36_skel onArgs
  simp only [Prog.lift, Prog.bind_op, Prog.bind_ret, Prog.pure_eq_ret]
  refine step_back (F := F) (.x 2) rfl (src_amount (.x 2)) ?_
  refine step_back (F := F) (.x 3) rfl (src_amount (.x 3)) ?_
  refine step_back (F := F) (.yd 0) rfl (src_amount (.yd 0)) ?_
  refine step_back (F := F) (.yd 1) rfl (src_amount (.yd 1)) ?_
  exact run_end trivial

/-- Part 37 of the body runs steps 86 to 88. -/
theorem part37 :
    St I κ f₀ c 86 ⊢ Run c (onArgs (k0_part37 (F := F))) (fun r => iprop(⌜True⌝ ∗ St I κ f₀ c 89)) := by
  rw [k0_part37_eq_skeleton]
  unfold k0_part37_skel onArgs
  simp only [Prog.lift, Prog.bind_op, Prog.bind_ret, Prog.pure_eq_ret]
  refine step_back (F := F) (.yd 2) rfl (src_amount (.yd 2)) ?_
  refine step_back (F := F) (.yd 3) rfl (src_amount (.yd 3)) ?_
  refine step_back (F := F) (.zd 0) rfl (src_amount (.zd 0)) ?_
  exact run_end trivial

/-- Part 38 of the body runs steps 89 to 91. -/
theorem part38 :
    St I κ f₀ c 89 ⊢ Run c (onArgs (k0_part38 (F := F))) (fun r => iprop(⌜True⌝ ∗ St I κ f₀ c 92)) := by
  rw [k0_part38_eq_skeleton]
  unfold k0_part38_skel onArgs
  simp only [Prog.lift, Prog.bind_op, Prog.bind_ret, Prog.pure_eq_ret]
  refine step_back (F := F) (.zd 1) rfl (src_amount (.zd 1)) ?_
  refine step_back (F := F) (.zd 2) rfl (src_amount (.zd 2)) ?_
  refine step_back (F := F) (.zd 3) rfl (src_amount (.zd 3)) ?_
  exact run_end trivial

end Cert.KernelIdeal.Scatter

end
-- ==== Proof.Barrier.lean ====
/-
  The barrier: a device hands its landing chunks to its three neighbours and gets theirs.
-/
module

public import proofs.«01_k».proof.Proof.BodyAdd

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F]

local notation "𝕄" => MT nD τ sig Unit (Elt F) ℕ UU ℕ

/-- The landing chunks along an axis that device `c` hands to its neighbour there. -/
def give (d : Fin 3) (c : Dev nD) : sProp 𝕄 :=
  bigSep (Finset.univ.filter fun l : Link => l.dir = d) fun l => iprop(chunkAny l.dstM c ∗ reached ER (rCell l c) 0)

/-- What a device gives with its signal is what its neighbour receives. -/
theorem give_eq (d : Fin 3) (c : Dev nD) : (give d c : sProp 𝕄) = barPay d (nbD d c) := by
  unfold give barPay; rw [nbD_nbD]

variable {I : Inp F} {κ : GSem nD τ sig → ℕ} {f₀ : Vec F S2x512x2048 .f32} {c : Dev nD} {α : Type}

/-- A signal to the neighbour along an axis. -/
theorem step_signal {Q : α → sProp (MT nD τ sig Unit (Elt F) ℕ UU ℕ)} {X : sProp (MT nD τ sig Unit (Elt F) ℕ UU ℕ)}
    (d : Fin 3) {n : Dev nD} (hn : n = nbD d c) (O : CellTallies nD τ sig Unit)
    {k : PUnit → Prog (TpuEff nD τ sig (Elt F) Λ₀ .tc) α}
    (h : iprop(recs I κ ∗ (∃ Wd, owes (c : Thread nD τ) O Wd) ∗ X) ⊢ Run c (k ⟨⟩) Q) :
    iprop(recs I κ ∗ (∃ Wd, owes (c : Thread nD τ) (O + tallyAt (barCell (nbD d c)) () 1) Wd)
        ∗ (give d c ∗ dutyTok ER (barCell (nbD d c)) 0 d ∗ reached ER (barCell (nbD d c)) 0) ∗ X)
      ⊢ Run c (.op (.semSignal (n : Thread nD τ) barrier0 1) k) Q := by
  subst hn
  rw [give_eq]
  iintro ⟨#Hrec, ⟨%Wd, HO⟩, ⟨Hg, Htok, Hr⟩, HX⟩
  ihave #HI := (recs_bar I κ (nbD d c)) $$ Hrec
  ihave Hp := (Entails.of_eq (payload_bar I (nbD d c) d).symm) $$ Hg
  iapply (Rounds.wp_signal 𝒱₀ ER (Rd I) (c : Thread nD τ) none (dst := (nbD d c : Thread nD τ)) (sem := barrier0) (r := 0) (d := d) (κ := κ (barCell (nbD d c)))
      (by rw [duties_bar]; exact Finset.mem_univ d) (amount_bar I (nbD d c) d) () O rfl) $$ [HO Htok Hp Hr]
  · isplitr; · iexact HI
    isplitl [HO]; · iexact HO
    isplitl [Htok]; · iexact Htok
    isplitl [Hp]; · iexact Hp
    iexact Hr
  iintro HO
  iapply h
  isplitr; · iexact Hrec
  isplitl [HO]; · iexists Wd; iexact HO
  iexact HX

/-- The wait for the three neighbours. -/
theorem step_barrier {Q : α → sProp (MT nD τ sig Unit (Elt F) ℕ UU ℕ)} {X : sProp (MT nD τ sig Unit (Elt F) ℕ UU ℕ)}
    {k : PUnit → Prog (TpuEff nD τ sig (Elt F) Λ₀ .tc) α}
    (h : iprop(recs I κ ∗ ow c Link.all ∗ (atPos ER (barCell c) (0 + 1) ∅ 0
        ∗ bigSep Finset.univ fun l : Link => iprop(chunkAny l.dstM (l.nb c) ∗ reached ER (rCell l (l.nb c)) 0)) ∗ X) ⊢ Run c (k ⟨⟩) Q) :
    iprop(recs I κ ∗ ow c Link.all ∗ (atPos ER (barCell c) 0 ∅ 0 ∗ cred (tallyAt (barCell c) () 3)) ∗ X)
      ⊢ Run c (.op (.semWait barrier0 3) k) Q := by
  iintro ⟨#Hrec, ⟨%Wd, HO⟩, ⟨Hat, Hcred⟩, HX⟩
  ihave #HI := (recs_bar I κ c) $$ Hrec
  ihave #Hlev := (recs_lev I κ) $$ Hrec
  ihave #Hmw := (mayWait_bar c) $$ Hlev
  iapply (Rounds.wp_wait_rest_token 𝒱₀ ER (Rd I) (c : Thread nD τ) none (κ := κ (barCell c))
      (wpE_semWait_eq 𝒱₀ (c : Thread nD τ) none Set.univ) (Set.mem_univ _) () (O := owed c Link.all) (W := Wd) (R := 0) (m := 0) (T := ∅)
      ((Nat.zero_add 3).trans (expect_bar I c).symm)) $$ [Hcred HO Hat]
  · isplitr; · iexact HI
    isplitl [Hcred]; · iexact Hcred
    isplitl [HO]; · iexact HO
    isplitr; · iexact Hmw
    iexact Hat
  iintro ⟨HO, Hat, -, Hpay⟩
  ihave Hl := (Entails.of_eq (rest_bar I c)) $$ Hpay
  iapply h
  isplitr; · iexact Hrec
  isplitl [HO]; · iexists _; iexact HO
  isplitr [HX]
  · isplitl [Hat]; · iexact Hat
    iexact Hl
  iexact HX

end Cert.KernelIdeal.Scatter

end
-- ==== Proof.BodyStart.lean ====
/-
  The runs of the program's first two parts: the barrier and what a device holds past it.
-/
module

public import proofs.«01_k».proof.Proof.Barrier

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F]

local notation "𝕄" => MT nD τ sig Unit (Elt F) ℕ UU ℕ

variable {I : Inp F} {κ : GSem nD τ sig → ℕ} {f₀ : Vec F S2x512x2048 .f32} {c : Dev nD} {α : Type}

/-- A run beside what it does not touch. -/
theorem run_beside {P R : sProp (MT nD τ sig Unit (Elt F) ℕ UU ℕ)} {A : Prog (TpuEff nD τ sig (Elt F) Λ₀ .tc) α}
    {Q : α → sProp (MT nD τ sig Unit (Elt F) ℕ UU ℕ)} (h : P ⊢ Run c A Q) : iprop(P ∗ R) ⊢ Run c A (fun a => iprop(Q a ∗ R)) := by
  refine BIBase.Entails.trans ?_ (wp_frame_r _ _ _)
  iintro ⟨H, HR⟩
  isplitl [H]
  · iapply h; iexact H
  iexact HR

/-- The device's own number. -/
theorem run_device {P : sProp (MT nD τ sig Unit (Elt F) ℕ UU ℕ)} {k : Dev nD → Prog (TpuEff nD τ sig (Elt F) Λ₀ .tc) α}
    {Q : α → sProp (MT nD τ sig Unit (Elt F) ℕ UU ℕ)} (h : P ⊢ Run c (k c) Q) : P ⊢ Run c (.op .deviceId k) Q := by
  unfold Run at h ⊢
  rw [wp_deviceId]
  exact h

/-- What a device holds of a copy's sending side at entry. -/
def sendPre (c : Dev nD) (l : Link) : sProp 𝕄 :=
  iprop(atPos ER (sCell l c) 0 ∅ 0 ∗ reached ER (sCell l c) 0 ∗ dutyTok ER (sCell l c) 0 0 ∗ dutyTok ER (rCell l (l.nb c)) 0 0)
/-- A sending end at the start, from its tokens and the receiver's chunk. -/
theorem sendSt_zero (l : Link) : iprop(sendPre c l ∗ chunkAny l.dstM (l.nb c) ∗ reached ER (rCell l (l.nb c)) 0) ⊢ (sendSt c 0 l : sProp 𝕄) := by
  unfold sendPre sendSt
  rw [if_pos (Nat.zero_le _)]
  iintro ⟨⟨H1, H2, H3, H4⟩, H5, H6⟩
  isplitl [H1]; · iexact H1
  isplitl [H2]; · iexact H2
  isplitl [H3]; · iexact H3
  isplitl [H4]; · iexact H4
  isplitl [H5]; · iexact H5
  iexact H6
/-- All sending ends at the start. -/
theorem sendSts_zero : iprop(bigSep Finset.univ (sendPre c)
      ∗ bigSep Finset.univ fun l : Link => iprop(chunkAny l.dstM (l.nb c) ∗ reached ER (rCell l (l.nb c)) 0))
    ⊢ (bigSep Finset.univ (sendSt c 0) : sProp 𝕄) :=
  (Entails.of_eq (bigSep_sep _ _ _).symm).trans (bigSep_mono fun l _ => sendSt_zero l)

/-- What a device gives up at a signal. -/
abbrev sig1 (d : Fin 3) (c : Dev nD) : sProp 𝕄 := iprop(give d c ∗ dutyTok ER (barCell (nbD d c)) 0 d ∗ reached ER (barCell (nbD d c)) 0)

variable (I κ f₀ c) in
/-- What a device holds at entry beside its signals. -/
def Own0 : sProp 𝕄 :=
  iprop((atPos ER (barCell c) 0 ∅ 0 ∗ cred (tallyAt (barCell c) () 3)) ∗ ins I c ∗ outP c f₀
    ∗ bigSep Finset.univ (sendPre c) ∗ bigSep Finset.univ (recvSt c 0) ∗ bigSep Finset.univ (srcSt I c 0) ∗ bigSep Finset.univ (keepSt I c 0))

variable (I κ f₀ c) in
/-- What a device holds at entry. -/
def Pre : sProp 𝕄 := iprop(recs I κ ∗ (∃ Wd, owes (c : Thread nD τ) (O₀ c) Wd) ∗ sig1 0 c ∗ sig1 1 c ∗ sig1 2 c ∗ Own0 I f₀ c)
variable (I κ f₀ c) in
/-- After the first signal. -/
def Pre1 : sProp 𝕄 := iprop(recs I κ ∗ (∃ Wd, owes (c : Thread nD τ) (owed2 c) Wd) ∗ sig1 1 c ∗ sig1 2 c ∗ Own0 I f₀ c)

/-- The first part signals the first of the neighbours; its values name the device and the barrier. -/
theorem part1 : Pre I κ f₀ c ⊢ Run c (onArgs (k0_part1 (F := F)))
    (fun r => iprop(⌜r.1 = c ∧ r.2.2.2.2.2.2.2.2.2.2.2.1 = SemArray.scalar barrier0⌝ ∗ Pre1 I κ f₀ c)) := by
  rw [k0_part1_eq_skeleton]
  unfold k0_part1_skel onArgs semSignalWord Pre
  simp only [Prog.lift, Prog.bind_op, Prog.bind_ret, Prog.pure_eq_ret]
  refine run_device ?_
  refine step_signal (F := F) 0 (dev1_eq c) (owed2 c) ?_
  exact run_end ⟨rfl, rfl⟩

/-- Past the barrier, before the first product. -/
theorem St_zero : iprop(recs I κ ∗ ow c Link.all ∗ (atPos ER (barCell c) (0 + 1) ∅ 0
        ∗ bigSep Finset.univ fun l : Link => iprop(chunkAny l.dstM (l.nb c) ∗ reached ER (rCell l (l.nb c)) 0))
      ∗ (ins I c ∗ outP c f₀ ∗ bigSep Finset.univ (sendPre c) ∗ bigSep Finset.univ (recvSt c 0) ∗ bigSep Finset.univ (srcSt I c 0) ∗ bigSep Finset.univ (keepSt I c 0)))
    ⊢ iprop(St I κ f₀ c 0 ∗ atPos ER (barCell c) (0 + 1) ∅ 0) := by
  unfold St
  rw [rem_zero, outAt_zero]
  iintro ⟨#Hrec, HO, ⟨Hat, Hl⟩, Hins, Hout, HS, HR, Hsrc, Hk⟩
  ihave HS := (sendSts_zero (c := c)) $$ [HS Hl]
  · isplitl [HS]; · iexact HS
    iexact Hl
  isplitr [Hat]
  · isplitr; · iexact Hrec
    isplitl [HO]; · iexact HO
    isplitl [Hins]; · iexact Hins
    isplitl [Hout]; · iexact Hout
    isplitl [HS]; · iexact HS
    isplitl [HR]; · iexact HR
    isplitl [Hsrc]; · iexact Hsrc
    iexact Hk
  iexact Hat

/-- The products of part 2, past the barrier. -/
theorem part2 (v2 v5 v8 v10 v11 v13 v32 : BitVec 32) : Pre1 I κ f₀ c ⊢ Run c (onArgs (k0_part2 (F := F)) c v2 v5 v8 v10 v11 v13 (SemArray.scalar barrier0) v32)
    (fun r => iprop(⌜r.2.1 = k0_pay2 (sentWin I c 0 1) ∧ r.2.2 = I.W c⌝ ∗ (St I κ f₀ c 1 ∗ atPos ER (barCell c) (0 + 1) ∅ 0))) := by
  rw [k0_part2_eq_skeleton]
  unfold k0_part2_skel onArgs semSignalWord semWaitWord Pre1
  simp only [Prog.lift, Prog.bind_op, Prog.bind_ret, Prog.pure_eq_ret]
  refine step_signal (F := F) 1 (dev2_eq c) (owed1 c) ?_
  refine step_signal (F := F) 2 (dev3_eq c) (owed c Link.all) ?_
  unfold Own0
  refine step_barrier (F := F) ?_
  refine St_zero.trans ((run_beside (Q := fun r => iprop(⌜r.2.1 = k0_pay2 (sentWin I c 0 1) ∧ r.2.2 = I.W c⌝ ∗ St I κ f₀ c 1)) ?_).trans (wp_mono _ _ _ fun r => ?_))
  · refine step_sent (F := F) 0 0 rfl (off1_eq c 0) (fun _ _ => rfl) ?_
    refine step_sentWin (F := F) 0 1 (off2_eq c 0) ?_
    refine step_loadW (F := F) ?_
    exact run_end ⟨rfl, rfl⟩
  · iintro ⟨⟨%h, H⟩, Ha⟩
    isplitr; · ipureintro; exact h
    isplitl [H]; · iexact H
    iexact Ha

end Cert.KernelIdeal.Scatter

end
-- ==== Proof.BodyRun.lean ====
/-
  The run of the kernel's body on one device.
-/
module

public import proofs.«01_k».proof.Proof.BodyStart

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F]

local notation "𝕄" => MT nD τ sig Unit (Elt F) ℕ UU ℕ

variable {I : Inp F} {κ : GSem nD τ sig → ℕ} {f₀ : Vec F S2x512x2048 .f32} {c : Dev nD} {α : Type}

/-- The end of a run beside what it does not touch, where the run's result is not used. -/
theorem run_rest {P R : sProp (MT nD τ sig Unit (Elt F) ℕ UU ℕ)} {S : sProp (MT nD τ sig Unit (Elt F) ℕ UU ℕ)} {A : Prog (TpuEff nD τ sig (Elt F) Λ₀ .tc) α}
    (h : P ⊢ Run c A (fun _ => iprop(⌜True⌝ ∗ S))) : iprop(P ∗ R) ⊢ Run c A (fun _ => iprop(⌜True⌝ ∗ (S ∗ R))) := by
  refine (run_beside h).trans (wp_mono _ _ _ fun r => ?_)
  iintro ⟨⟨%h, H⟩, Ha⟩
  isplitr; · ipureintro; exact trivial
  isplitl [H]; · iexact H
  iexact Ha

/-- All the parts, in order. -/
theorem part39 : Pre I κ f₀ c ⊢ Run c (onArgs (k0_part39 (F := F))) (fun _ => iprop(⌜True⌝ ∗ (St I κ f₀ c 93 ∗ atPos ER (barCell c) (0 + 1) ∅ 0))) := by
  rw [k0_part39_eq_skeleton]
  unfold k0_part39_skel onArgs
  refine run_bind part1 ?_
  rintro ⟨d0, v2, v5, v8, v9, v10, v11, v13, v16, v19, v23, v24, v32⟩ ⟨hd, hs⟩
  obtain rfl : d0 = c := hd
  obtain rfl : v24 = SemArray.scalar barrier0 := hs
  refine run_bind (part2 _ _ _ _ _ _ _) ?_
  rintro ⟨v46, v60, v61⟩ ⟨hv60, hv61⟩
  refine run_rest ?_
  refine run_bind (part3 _ _ _ _ hv60 hv61) ?_
  rintro r hv90
  refine run_bind (part4 _ _ _ _ hv90) ?_
  rintro r hv118
  refine run_bind (part5 _ _ _ _ hv118) ?_
  rintro r -
  refine run_bind (part6 _ _ _ _) ?_
  rintro r -
  refine run_bind (part7 _ _ _ _ _) ?_
  rintro r -
  refine run_bind (part8 _ _ _ _) ?_
  rintro r -
  refine run_bind (part9 _ _ _ _ _ _) ?_
  rintro ⟨r0, r1⟩ -
  refine run_bind (part10 _ _ _ _ _ _) ?_
  rintro r hv290
  refine run_bind (part11 _ _ _ _ _ hv290) ?_
  rintro r -
  refine run_bind (part12 _ _ _ _ _ _ _) ?_
  rintro ⟨r0, r1⟩ ⟨hv347, hv348⟩
  refine run_bind (part13 _ _ _ _ hv347 hv348) ?_
  rintro r -
  refine run_bind (part14 _ _ _ _ _ _) ?_
  rintro r -
  refine run_bind (part15 _ _ _ _) ?_
  rintro r -
  refine run_bind (part16 _ _ _ _ _) ?_
  rintro r -
  refine run_bind (part17 _ _ _) ?_
  rintro r -
  refine run_bind (part18 _ _ _ _ _ _) ?_
  rintro ⟨r0, r1⟩ -
  refine run_bind (part19 _ _ _ _) ?_
  rintro r hv547
  refine run_bind (part20 _ hv547) ?_
  rintro ⟨r0, r1⟩ hv580
  refine run_bind (part21 _ _ hv580) ?_
  rintro r -
  refine run_bind (part22 _ _ _ _) ?_
  rintro ⟨r0, r1⟩ -
  refine run_bind (part23 _ _ _ _ _ _) ?_
  rintro r -
  refine run_bind (part24 _) ?_
  rintro ⟨r0, r1⟩ -
  refine run_bind (part25 _ _ _) ?_
  rintro ⟨r0, r1⟩ hv727
  refine run_bind (part26 _ _ hv727) ?_
  rintro ⟨r0, r1⟩ hv759
  refine run_bind (part27 _ _ hv759) ?_
  rintro r hv791
  refine run_bind (part28 _ hv791) ?_
  rintro ⟨r0, r1⟩ hv820
  refine run_bind (part29 _ _ hv820) ?_
  rintro r -
  refine run_bind (part30 _ _ _ _ _) ?_
  rintro ⟨r0, r1, r2⟩ ⟨hv880, hv881⟩
  refine run_bind (part31 _ _ _ _ _ hv880 hv881) ?_
  rintro r -
  refine run_bind (part32 _ _ _ _ _) ?_
  rintro r -
  refine run_bind (part33 _) ?_
  rintro r -
  refine run_bind (part34 _ _ _ _) ?_
  rintro ⟨r0, r1⟩ hv1000
  refine run_bind (part35 _ hv1000) ?_
  rintro r -
  refine run_bind (part36) ?_
  rintro r -
  refine run_bind (part37) ?_
  rintro r -
  refine run_bind (part38) ?_
  rintro r -
  simp only [Prog.lift, Prog.bind_op, Prog.bind_ret, Prog.pure_eq_ret]
  refine step_back (F := F) (.yf 0) rfl (src_amount (.yf 0)) ?_
  exact run_end trivial

/-- The kernel's body: it runs from what a device holds at entry to the last step's state. -/
theorem body_run : Pre I κ f₀ c ⊢ Run c (onArgs (cc0_body (F := F))) (fun _ => iprop(⌜True⌝ ∗ (St I κ f₀ c 96 ∗ atPos ER (barCell c) (0 + 1) ∅ 0))) := by
  rw [cc0_body_eq_skeleton]
  unfold cc0_body_skel onArgs
  refine run_bind part39 ?_
  rintro _ -
  refine run_rest ?_
  simp only [Prog.lift, Prog.bind_op, Prog.bind_ret, Prog.pure_eq_ret]
  refine step_back (F := F) (.yf 1) rfl (src_amount (.yf 1)) ?_
  refine step_back (F := F) (.zf 0) rfl (src_amount (.zf 0)) ?_
  refine step_back (F := F) (.zf 1) rfl (src_amount (.zf 1)) ?_
  exact run_end trivial

end Cert.KernelIdeal.Scatter

end
-- ==== Proof.BodyEnd.lean ====
/-
  The end of the body: every share of every chunk is back, every counter is zero again.
-/
module

public import proofs.«01_k».proof.Proof.BodyRun

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F]

local notation "𝕄" => MT nD τ sig Unit (Elt F) ℕ UU ℕ

variable {I : Inp F} {κ : GSem nD τ sig → ℕ} {f₀ : Vec F S2x512x2048 .f32} {c : Dev nD}

/-- A family changed member by member. -/
theorem big_mono {A : Type*} [Fintype A] {Φ Ψ : A → sProp (MT nD τ sig Unit (Elt F) ℕ UU ℕ)} (h : ∀ a, Φ a ⊢ Ψ a) :
    bigSep Finset.univ Φ ⊢ bigSep Finset.univ Ψ := bigSep_mono fun a _ => h a

/-- Two families side by side are one. -/
theorem big_pair {A : Type*} [DecidableEq A] {S : Finset A} {Φ Ψ : A → sProp (MT nD τ sig Unit (Elt F) ℕ UU ℕ)} :
    iprop(bigSep S Φ ∗ bigSep S Ψ) ⊢ bigSep S fun a => iprop(Φ a ∗ Ψ a) := Entails.of_eq (bigSep_sep' S Φ Ψ).symm
/-- A family of pairs is a pair of families. -/
theorem big_unpair {A : Type*} [DecidableEq A] {S : Finset A} {Φ Ψ : A → sProp (MT nD τ sig Unit (Elt F) ℕ UU ℕ)} :
    (bigSep S fun a => iprop(Φ a ∗ Ψ a)) ⊢ iprop(bigSep S Φ ∗ bigSep S Ψ) := Entails.of_eq (bigSep_sep' S Φ Ψ)

/-! ## A family over the copies as five families over chunks -/

/-- Which of the five kinds a copy is. -/
def Link.kind : Link → Fin 5
  | .x _ => 0
  | .yd _ => 1
  | .zd _ => 2
  | .yf _ => 3
  | .zf _ => 4

/-- A family over five, written out. -/
theorem big_five (Φ : Fin 5 → sProp (MT nD τ sig Unit (Elt F) ℕ UU ℕ)) :
    bigSep Finset.univ Φ = iprop(Φ 0 ∗ Φ 1 ∗ Φ 2 ∗ Φ 3 ∗ Φ 4) := bigSep_univ_eq_bigSepL [0, 1, 2, 3, 4] (by decide) (by decide) Φ
/-- A family over four, written out. -/
theorem big_four (Φ : Fin 4 → sProp (MT nD τ sig Unit (Elt F) ℕ UU ℕ)) :
    bigSep Finset.univ Φ = iprop(Φ 0 ∗ Φ 1 ∗ Φ 2 ∗ Φ 3) := bigSep_univ_eq_bigSepL [0, 1, 2, 3] (by decide) (by decide) Φ
/-- A family over three, written out. -/
theorem big_three (Φ : Fin 3 → sProp (MT nD τ sig Unit (Elt F) ℕ UU ℕ)) :
    bigSep Finset.univ Φ = iprop(Φ 0 ∗ Φ 1 ∗ Φ 2) := bigSep_univ_eq_bigSepL [0, 1, 2] (by decide) (by decide) Φ
/-- A family over two, written out. -/
theorem big_two (Φ : Fin 2 → sProp (MT nD τ sig Unit (Elt F) ℕ UU ℕ)) :
    bigSep Finset.univ Φ = iprop(Φ 0 ∗ Φ 1) := bigSep_univ_eq_bigSepL [0, 1] (by decide) (by decide) Φ

/-- A family over the copies, as one family for each kind of copy. -/
theorem link_fams (Φ : Link → sProp (MT nD τ sig Unit (Elt F) ℕ UU ℕ)) :
    bigSep Finset.univ Φ = iprop((bigSep Finset.univ fun k => Φ (.x k)) ∗ (bigSep Finset.univ fun k => Φ (.yd k))
      ∗ (bigSep Finset.univ fun k => Φ (.zd k)) ∗ (bigSep Finset.univ fun k => Φ (.yf k)) ∗ (bigSep Finset.univ fun k => Φ (.zf k))) := by
  rw [Idealize.SL.BI.bigSep_fiberwise Finset.univ Link.kind Φ, show Finset.univ.image Link.kind = Finset.univ from by decide, big_five,
    show (Finset.univ.filter fun l : Link => l.kind = 0) = Finset.univ.map ⟨Link.x, fun _ _ h => by cases h; rfl⟩ from by decide,
    show (Finset.univ.filter fun l : Link => l.kind = 1) = Finset.univ.map ⟨Link.yd, fun _ _ h => by cases h; rfl⟩ from by decide,
    show (Finset.univ.filter fun l : Link => l.kind = 2) = Finset.univ.map ⟨Link.zd, fun _ _ h => by cases h; rfl⟩ from by decide,
    show (Finset.univ.filter fun l : Link => l.kind = 3) = Finset.univ.map ⟨Link.yf, fun _ _ h => by cases h; rfl⟩ from by decide,
    show (Finset.univ.filter fun l : Link => l.kind = 4) = Finset.univ.map ⟨Link.zf, fun _ _ h => by cases h; rfl⟩ from by decide,
    bigSep_map, bigSep_map, bigSep_map, bigSep_map, bigSep_map]
  rfl

/-- A family over the copies by the axis they go along. -/
theorem link_dirs (Φ : Link → sProp (MT nD τ sig Unit (Elt F) ℕ UU ℕ)) :
    bigSep Finset.univ Φ = iprop(bigSep (Finset.univ.filter fun l : Link => l.dir = 0) Φ ∗ bigSep (Finset.univ.filter fun l : Link => l.dir = 1) Φ
      ∗ bigSep (Finset.univ.filter fun l : Link => l.dir = 2) Φ) := by
  rw [Idealize.SL.BI.bigSep_fiberwise Finset.univ Link.dir Φ, show Finset.univ.image Link.dir = Finset.univ from by decide, big_three]

/-! ## The shares of a chunk put together -/

/-- Two halves of a share, held at equal values. -/
theorem chunk_merge {M : Memref sig .tc .vmem S2x32x2048 .f32} {q : PosShare TreeShare} {V V' : Vec F S2x32x2048 .f32} (h : V' = V) :
    iprop(chunk M c q.left V' ∗ chunk M c q.right V) ⊢ (chunk M c q V : sProp 𝕄) := by
  subst h; exact (chunk_split M c q V').2

/-- A send chunk, whole again at the end. -/
theorem send_whole (k : Fin 4) : srcC I c (.x k) ⊢ (chunkAny (chk xsend k) c : sProp 𝕄) := chunk_toAny _ _ _

/-- A chunk received across the first axis, put together from its shares. -/
theorem xrecv_whole (k : Fin 4) : iprop(srcC I c (.yd k) ∗ srcC I c (.zd k) ∗ keepC I c (.x k)) ⊢ (chunkAny (chk xrecv k) c : sProp 𝕄) := by
  have h1 : iprop(srcC I c (.zd k) ∗ keepC I c (.x k)) ⊢ (chunk (chk xrecv k) c fullShare.right (land I (.x k) c) : sProp 𝕄) :=
    chunk_merge (M := chk xrecv k) (q := fullShare.right) (sent_par I c (.zd k) (.x k) rfl)
  have h2 : iprop(srcC I c (.yd k) ∗ chunk (chk xrecv k) c fullShare.right (land I (.x k) c)) ⊢ (chunk (chk xrecv k) c fullShare (land I (.x k) c) : sProp 𝕄) :=
    chunk_merge (M := chk xrecv k) (q := fullShare) (sent_par I c (.yd k) (.x k) rfl)
  iintro ⟨H1, H2⟩
  ihave H2 := h1 $$ H2
  iapply (chunk_toAny (chk xrecv k) c (land I (.x k) c))
  iapply h2
  isplitl [H1]; · iexact H1
  iexact H2

/-- A lower chunk received along the second axis, whole at the end. -/
theorem yd_lo (k : Fin 2) : keepC I c (.yd (Link.lo k)) ⊢ (chunkAny (chk ydrecv (Link.lo k)) c : sProp 𝕄) := by
  have h : keepQ (.yd (Link.lo k)) = fullShare := if_pos k.isLt
  unfold keepC; rw [h]; exact chunk_toAny _ _ _
/-- An upper chunk received along the second axis, put together from its shares. -/
theorem yd_up (k : Fin 2) : iprop(srcC I c (.zf k) ∗ keepC I c (.yd (Link.up k))) ⊢ (chunkAny (chk ydrecv (Link.up k)) c : sProp 𝕄) := by
  have h : keepQ (.yd (Link.up k)) = fullShare.right := by match k with | 0 => rfl | 1 => rfl
  unfold keepC; rw [h]
  exact (chunk_merge (M := chk ydrecv (Link.up k)) (q := fullShare) (sent_par I c (.zf k) (.yd (Link.up k)) rfl)).trans (chunk_toAny _ _ _)
/-- An upper chunk received along the third axis, whole at the end. -/
theorem zd_up (k : Fin 2) : keepC I c (.zd (Link.up k)) ⊢ (chunkAny (chk zdrecv (Link.up k)) c : sProp 𝕄) := by
  have h : keepQ (.zd (Link.up k)) = fullShare := by match k with | 0 => rfl | 1 => rfl
  unfold keepC; rw [h]; exact chunk_toAny _ _ _
/-- A lower chunk received along the third axis, put together from its shares. -/
theorem zd_lo (k : Fin 2) : iprop(srcC I c (.yf k) ∗ keepC I c (.zd (Link.lo k))) ⊢ (chunkAny (chk zdrecv (Link.lo k)) c : sProp 𝕄) := by
  have h : keepQ (.zd (Link.lo k)) = fullShare.right := if_pos k.isLt
  unfold keepC; rw [h]
  exact (chunk_merge (M := chk zdrecv (Link.lo k)) (q := fullShare) (sent_par I c (.yf k) (.zd (Link.lo k)) rfl)).trans (chunk_toAny _ _ _)
/-- A chunk forwarded along the second axis, whole at the end. -/
theorem yf_whole (k : Fin 2) : keepC I c (.yf k) ⊢ (chunkAny (chk yfrecv k) c : sProp 𝕄) := chunk_toAny _ _ _
/-- A chunk forwarded along the third axis, whole at the end. -/
theorem zf_whole (k : Fin 2) : keepC I c (.zf k) ⊢ (chunkAny (chk zfrecv k) c : sProp 𝕄) := chunk_toAny _ _ _

/-- All the chunks of a stack. -/
abbrev chunks {n : ℕ} (B : Memref sig .tc .vmem (SN n) .f32) (c : Dev nD) : sProp 𝕄 := bigSep Finset.univ fun k : Fin n => chunkAny (chk B k) c

/-- A stack of four in its lower and upper halves. -/
theorem big_halves (Φ : Fin 4 → sProp (MT nD τ sig Unit (Elt F) ℕ UU ℕ)) :
    iprop((bigSep Finset.univ fun k : Fin 2 => Φ (Link.lo k)) ∗ bigSep Finset.univ fun k : Fin 2 => Φ (Link.up k)) ⊣⊢ bigSep Finset.univ Φ := by
  rw [big_two, big_two, big_four]
  exact sep_assoc

/-- The shares that are back are the six stacks. -/
theorem stacks_back : iprop(bigSep Finset.univ (srcC I c) ∗ bigSep Finset.univ (fun l => keepC I c l))
    ⊢ (iprop(chunks xsend c ∗ chunks xrecv c ∗ chunks ydrecv c ∗ chunks zdrecv c ∗ chunks yfrecv c ∗ chunks zfrecv c) : sProp 𝕄) := by
  rw [link_fams (srcC I c), link_fams (fun l => keepC I c l)]
  iintro ⟨⟨Hx, Hyd, Hzd, Hyf, Hzf⟩, Kx, Kyd, Kzd, Kyf, Kzf⟩
  ihave Kyd := (big_halves (fun k => keepC I c (.yd k))).2 $$ Kyd
  icases Kyd with ⟨Kydl, Kydu⟩
  ihave Kzd := (big_halves (fun k => keepC I c (.zd k))).2 $$ Kzd
  icases Kzd with ⟨Kzdl, Kzdu⟩
  isplitl [Hx]
  · iapply (big_mono fun k => send_whole (I := I) (c := c) k); iexact Hx
  isplitl [Hyd Hzd Kx]
  · iapply (big_mono fun k => xrecv_whole (I := I) (c := c) k)
    iapply big_pair; isplitl [Hyd]; · iexact Hyd
    iapply big_pair; isplitl [Hzd]; · iexact Hzd
    iexact Kx
  isplitl [Hzf Kydl Kydu]
  · iapply (big_halves (fun k => chunkAny (chk ydrecv k) c)).1
    isplitl [Kydl]
    · iapply (big_mono fun k => yd_lo (I := I) (c := c) k); iexact Kydl
    iapply (big_mono fun k => yd_up (I := I) (c := c) k)
    iapply big_pair; isplitl [Hzf]; · iexact Hzf
    iexact Kydu
  isplitl [Hyf Kzdl Kzdu]
  · iapply (big_halves (fun k => chunkAny (chk zdrecv k) c)).1
    isplitr [Kzdu]
    · iapply (big_mono fun k => zd_lo (I := I) (c := c) k)
      iapply big_pair; isplitl [Hyf]; · iexact Hyf
      iexact Kzdl
    iapply (big_mono fun k => zd_up (I := I) (c := c) k); iexact Kzdu
  isplitl [Kyf]
  · iapply (big_mono fun k => yf_whole (I := I) (c := c) k); iexact Kyf
  iapply (big_mono fun k => zf_whole (I := I) (c := c) k); iexact Kzf

/-! ## The last state -/

/-- The sending ends after the last step. -/
theorem sendSt_end (l : Link) : (sendSt c 96 l : sProp 𝕄) = atPos ER (sCell l c) (0 + 1) ∅ 0 := by
  have h1 := time_lt (.S l); have h2 := time_lt (.B l)
  unfold sendSt; rw [if_neg (by omega), if_neg (by omega)]
/-- The receiving ends after the last step. -/
theorem recvSt_end (l : Link) : (recvSt c 96 l : sProp 𝕄) = atPos ER (rCell l c) (0 + 1) ∅ 0 := by
  have h1 := time_lt (.R l)
  unfold recvSt; rw [if_neg (by omega)]
/-- The sources after the last step. -/
theorem srcSt_end (l : Link) : (srcSt I c 96 l : sProp 𝕄) = srcC I c l := by
  have h1 := time_lt (.S l); have h2 := time_lt (.B l)
  unfold srcSt; rw [if_neg (by omega), if_neg (by omega)]
/-- The kept parts after the last step. -/
theorem keepSt_end (l : Link) : (keepSt I c 96 l : sProp 𝕄) = keepC I c l := by
  have h1 := time_lt (.R l)
  unfold keepSt; rw [if_neg (by omega)]
/-- No copy is left to start. -/
theorem rem_end : rem 96 = [] := by decide

/-! ## The counters -/

/-- The cell of a copy's semaphore. -/
abbrev lCell (p : Link × Fin 2) (c : Dev nD) : GSem nD τ sig := ((c : Thread nD τ), Link.sem p)

/-- A family over the semaphores by side. -/
theorem sem_sides (Φ : Link × Fin 2 → sProp (MT nD τ sig Unit (Elt F) ℕ UU ℕ)) :
    bigSep Finset.univ Φ = iprop((bigSep Finset.univ fun l => Φ (l, 0)) ∗ bigSep Finset.univ fun l => Φ (l, 1)) := by
  rw [bigSep_univ_prod, ← bigSep_sep']
  exact bigSep_congr fun l _ => big_two fun s => Φ (l, s)

/-- A semaphore whose round is over reads zero. -/
theorem close_one {g : GSem nD τ sig} : iprop(cellInv ER (Rd I) (κ g) g ∗ atPos ER g (0 + 1) ∅ 0) ⊢ (|={Set.univ}=> semVal g 0 : sProp 𝕄) :=
  Rounds.cell_close ER (Rd I) (Set.mem_univ (κ g)) id (duties_later I g)

/-- The copies' cells closed. -/
theorem close_links : iprop(recs I κ ∗ (bigSep Finset.univ fun l : Link => atPos ER (sCell l c) (0 + 1) ∅ 0)
      ∗ bigSep Finset.univ fun l : Link => atPos ER (rCell l c) (0 + 1) ∅ 0)
    ⊢ (|={Set.univ}=> bigSep Finset.univ fun p : Link × Fin 2 => semVal (lCell p c) 0 : sProp 𝕄) := by
  refine BIBase.Entails.trans ?_ (bigSep_fupd _ _)
  rw [sem_sides (fun p : Link × Fin 2 => iprop(|={Set.univ}=> semVal (lCell p c) 0))]
  iintro ⟨#Hr, HS, HR⟩
  isplitl [HS]
  · iapply (bigSep_with_persistent (R := recs I κ) (Φ := fun l : Link => atPos ER (sCell l c) (0 + 1) ∅ 0) fun l _ =>
      show iprop(recs I κ ∗ atPos ER (sCell l c) (0 + 1) ∅ 0) ⊢ (|={Set.univ}=> semVal (lCell (l, 0) c) 0 : sProp 𝕄) from
        (sep_mono_left (recs_send I κ c l)).trans close_one)
    isplitr; · iexact Hr
    iexact HS
  · iapply (bigSep_with_persistent (R := recs I κ) (Φ := fun l : Link => atPos ER (rCell l c) (0 + 1) ∅ 0) fun l _ =>
      show iprop(recs I κ ∗ atPos ER (rCell l c) (0 + 1) ∅ 0) ⊢ (|={Set.univ}=> semVal (lCell (l, 1) c) 0 : sProp 𝕄) from
        (sep_mono_left (recs_recv I κ c l)).trans close_one)
    isplitr; · iexact Hr
    iexact HR

variable (I c) in
/-- What the body leaves: the counters at zero, the stacks, the operands, the result. -/
def Post : sProp 𝕄 :=
  iprop(semVal (barCell c) 0 ∗ (bigSep Finset.univ fun p : Link × Fin 2 => semVal (lCell p c) 0)
    ∗ (chunks xsend c ∗ chunks xrecv c ∗ chunks ydrecv c ∗ chunks zdrecv c ∗ chunks yfrecv c ∗ chunks zfrecv c)
    ∗ ins I c ∗ outP c (outV I c) ∗ ∃ Wd, owes (c : Thread nD τ) (0 : CellTallies nD τ sig Unit) Wd)

/-- From the last state to what the body must leave. -/
theorem finish : iprop(St I κ f₀ c 96 ∗ atPos ER (barCell c) (0 + 1) ∅ 0) ⊢ (|={Set.univ}=> Post I c : sProp 𝕄) := by
  unfold St Post
  rw [rem_end, outAt_end, bigSep_congr fun l _ => sendSt_end (F := F) (c := c) l, bigSep_congr fun l _ => recvSt_end (F := F) (c := c) l,
    bigSep_congr fun l _ => srcSt_end (I := I) (c := c) l, bigSep_congr fun l _ => keepSt_end (I := I) (c := c) l]
  iintro ⟨⟨#Hr, HO, Hi, Hout, HS, HR, Hsrc, Hk⟩, Hb⟩
  imod (close_one (I := I) (κ := κ) (g := barCell c)) $$ [Hb] with Hb
  · isplitr; · iapply (recs_bar I κ c); iexact Hr
    iexact Hb
  imod (close_links (I := I) (κ := κ) (c := c)) $$ [HS HR] with Hl
  · isplitr; · iexact Hr
    isplitl [HS]; · iexact HS
    iexact HR
  imodintro
  isplitl [Hb]; · iexact Hb
  isplitl [Hl]; · iexact Hl
  isplitl [Hsrc Hk]
  · iapply (stacks_back (I := I) (c := c))
    isplitl [Hsrc]; · iexact Hsrc
    iexact Hk
  isplitl [Hi]; · iexact Hi
  isplitl [Hout]; · iexact Hout
  iexact HO

/-- The kernel's body, from entry to what it leaves. -/
theorem body_whole : Pre I κ f₀ c ⊢ Run c (onArgs (cc0_body (F := F))) (fun _ => Post I c) := by
  refine body_run.trans (BIBase.Entails.trans (wp_mono _ _ _ fun r => ?_) (wp_fupd _ _ _ _ _))
  iintro ⟨-, H⟩
  iapply (finish (I := I) (κ := κ) (f₀ := f₀) (c := c))
  iexact H

end Cert.KernelIdeal.Scatter

end
-- ==== Proof.Entry.lean ====
/-
  What a device enters the body with, from its ghost state and its buffers.
-/
module

public import proofs.«01_k».proof.Proof.BodyEnd

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow

variable {F : FTy → Type} [FloatOps F]

local notation "𝕄" => MT nD τ sig Unit (Elt F) ℕ UU ℕ

variable {I : Inp F} {κ : GSem nD τ sig → ℕ} {f₀ : Vec F S2x512x2048 .f32} {c : Dev nD}

/-- The ghost state that is dealt out: the barrier's position, the duties' tokens. -/
def dealt (c : Dev nD) : sProp 𝕄 :=
  iprop(atPos ER (barCell c) 0 ∅ 0 ∗ (bigSep Finset.univ fun d : Fin 3 => dutyTok ER (barCell (nbD d c)) 0 d)
    ∗ bigSep Finset.univ fun l : Link => iprop(dutyTok ER (sCell l c) 0 0 ∗ dutyTok ER (rCell l (l.nb c)) 0 0))
/-- The credits: three units of the barrier, each copy that arrives. -/
def credits (c : Dev nD) : sProp 𝕄 :=
  iprop(cred (tallyAt (barCell c) () 3) ∗ bigSep Finset.univ fun l : Link => cred (tallyAt (rCell l c) () N))
/-- The facts that every device reads: the cells' invariants, round 0 of the barriers reached. -/
def records (I : Inp F) (κ : GSem nD τ sig → ℕ) : sProp 𝕄 :=
  iprop(recs I κ ∗ bigSep Finset.univ fun c : Dev nD => reached ER (barCell c) 0)
instance records_persistent (I : Inp F) (κ : GSem nD τ sig → ℕ) : BI.Persistent (records I κ) := by unfold records; infer_instance
/-- The copies' cells, opened. -/
def openedCells (c : Dev nD) : sProp 𝕄 :=
  bigSep Finset.univ fun p : Link × Fin 2 => iprop(atPos ER (lCell p c) 0 ∅ 0 ∗ reached ER (lCell p c) 0)
/-- A device's ghost state at entry. -/
def Ghost (I : Inp F) (c : Dev nD) : sProp 𝕄 := iprop(∃ κ, records I κ ∗ openedCells c ∗ dealt c ∗ credits c)
/-- The six stacks. -/
abbrev Stacks (c : Dev nD) : sProp 𝕄 :=
  iprop(chunks xsend c ∗ chunks xrecv c ∗ chunks ydrecv c ∗ chunks zdrecv c ∗ chunks yfrecv c ∗ chunks zfrecv c)

/-- The records say that the barrier's round has begun. -/
theorem records_bar (c : Dev nD) : records I κ ⊢ (reached ER (barCell c) 0 : sProp 𝕄) := by
  unfold records
  iintro ⟨-, H⟩
  iapply (big_elim (Finset.mem_univ c) (Φ := fun c : Dev nD => (reached ER (barCell c) 0 : sProp 𝕄)))
  iexact H

/-- The landing stacks, with each receive cell's round reached, are what the three signals give. -/
theorem give_all : iprop((chunks xrecv c ∗ chunks ydrecv c ∗ chunks zdrecv c ∗ chunks yfrecv c ∗ chunks zfrecv c)
      ∗ bigSep Finset.univ fun l : Link => reached ER (rCell l c) 0) ⊢ (iprop(give 0 c ∗ give 1 c ∗ give 2 c) : sProp 𝕄) := by
  have h1 : iprop(chunks xrecv c ∗ chunks ydrecv c ∗ chunks zdrecv c ∗ chunks yfrecv c ∗ chunks zfrecv c)
      ⊢ (bigSep Finset.univ fun l : Link => chunkAny l.dstM c : sProp 𝕄) := Entails.of_eq (link_fams fun l : Link => (chunkAny l.dstM c : sProp 𝕄)).symm
  have h2 : (bigSep Finset.univ fun l : Link => iprop(chunkAny l.dstM c ∗ reached ER (rCell l c) 0)) ⊢ (iprop(give 0 c ∗ give 1 c ∗ give 2 c) : sProp 𝕄) :=
    Entails.of_eq (link_dirs fun l : Link => (iprop(chunkAny l.dstM c ∗ reached ER (rCell l c) 0) : sProp 𝕄))
  iintro ⟨H, HR⟩
  iapply h2
  iapply big_pair
  isplitl [H]; · iapply h1; iexact H
  iexact HR

/-- All sources at the start. -/
theorem srcs_zero : (chunks xsend c : sProp 𝕄) ⊢ bigSep Finset.univ (srcSt I c 0) := by
  have e1 : ∀ k : Fin 4, (srcSt I c 0 (.x k) : sProp 𝕄) = chunkAny (chk xsend k) c := fun k => by
    unfold srcSt; rw [if_pos (Nat.zero_le _), ready_x, if_pos (Nat.zero_le _)]
  have e2 : ∀ l : Link, (∀ k, l ≠ .x k) → (srcSt I c 0 l : sProp 𝕄) = BI.emp := fun l hl => by
    unfold srcSt; rw [if_pos (Nat.zero_le _)]
    cases l
    · exact absurd rfl (hl _)
    all_goals (unfold ready; dsimp only; rw [if_pos (Nat.zero_le _)]; rfl)
  rw [link_fams (srcSt I c 0), bigSep_congr fun k _ => e1 k,
    bigSep_congr (Φ := fun k => srcSt I c 0 (.yd k)) fun k _ => e2 (.yd k) (fun _ h => by cases h),
    bigSep_congr (Φ := fun k => srcSt I c 0 (.zd k)) fun k _ => e2 (.zd k) (fun _ h => by cases h),
    bigSep_congr (Φ := fun k => srcSt I c 0 (.yf k)) fun k _ => e2 (.yf k) (fun _ h => by cases h),
    bigSep_congr (Φ := fun k => srcSt I c 0 (.zf k)) fun k _ => e2 (.zf k) (fun _ h => by cases h),
    BI.bigSep_emp_const, BI.bigSep_emp_const]
  iintro H
  isplitl [H]; · iexact H
  isplitr; · iempintro
  isplitr; · iempintro
  isplitr; · iempintro
  iempintro

/-- Nothing landed is held at the start. -/
theorem keeps_zero : (iprop(emp) : sProp 𝕄) ⊢ bigSep Finset.univ (keepSt I c 0) := by
  rw [bigSep_congr (Ψ := fun _ => (BI.emp : sProp 𝕄)) fun l _ => show keepSt I c 0 l = BI.emp from if_pos (Nat.zero_le _), BI.bigSep_emp_const]
  iintro H; iexact H

/-- All receiving ends at the start. -/
theorem recvs_zero : iprop((bigSep Finset.univ fun l : Link => atPos ER (rCell l c) 0 ∅ 0) ∗ bigSep Finset.univ fun l : Link => cred (tallyAt (rCell l c) () N))
    ⊢ (bigSep Finset.univ (recvSt c 0) : sProp 𝕄) :=
  big_pair.trans (big_mono fun l => Entails.of_eq (show _ = recvSt c 0 l from (if_pos (Nat.zero_le _)).symm))

/-- What a device enters the body with. -/
theorem enter : iprop((records I κ ∗ openedCells c ∗ dealt c ∗ credits c) ∗ Stacks c ∗ (ins I c ∗ outP c f₀) ∗ ∃ Wd, owes (c : Thread nD τ) (O₀ c) Wd)
    ⊢ Pre I κ f₀ c := by
  unfold openedCells dealt credits Pre Own0
  rw [sem_sides (fun p : Link × Fin 2 => (iprop(atPos ER (lCell p c) 0 ∅ 0 ∗ reached ER (lCell p c) 0) : sProp 𝕄)),
    big_three (fun d : Fin 3 => (dutyTok ER (barCell (nbD d c)) 0 d : sProp 𝕄))]
  iintro ⟨⟨#Hrec, ⟨HS, HR⟩, ⟨Hb, ⟨Ht0, Ht1, Ht2⟩, Ht⟩, Hcb, Hcr⟩, ⟨Hx, Hl⟩, ⟨Hi, Ho⟩, HO⟩
  ihave HR := big_unpair $$ HR
  icases HR with ⟨HaR, #HrR⟩
  ihave HS := big_unpair $$ HS
  icases HS with ⟨HaS, #HrS⟩
  ihave Hg := (give_all (c := c)) $$ [Hl]
  · isplitl [Hl]; · iexact Hl
    iexact HrR
  icases Hg with ⟨Hg0, Hg1, Hg2⟩
  isplitr
  · unfold records; icases Hrec with ⟨H, -⟩; iexact H
  isplitl [HO]; · iexact HO
  isplitl [Hg0 Ht0]
  · isplitl [Hg0]; · iexact Hg0
    isplitl [Ht0]; · iexact Ht0
    iapply (records_bar (I := I) (κ := κ) (nbD 0 c)); iexact Hrec
  isplitl [Hg1 Ht1]
  · isplitl [Hg1]; · iexact Hg1
    isplitl [Ht1]; · iexact Ht1
    iapply (records_bar (I := I) (κ := κ) (nbD 1 c)); iexact Hrec
  isplitl [Hg2 Ht2]
  · isplitl [Hg2]; · iexact Hg2
    isplitl [Ht2]; · iexact Ht2
    iapply (records_bar (I := I) (κ := κ) (nbD 2 c)); iexact Hrec
  isplitl [Hb Hcb]
  · isplitl [Hb]; · iexact Hb
    iexact Hcb
  isplitl [Hi]; · iexact Hi
  isplitl [Ho]; · iexact Ho
  isplitl [HaS Ht]
  · unfold sendPre
    iapply big_pair
    isplitl [HaS]; · iexact HaS
    iapply big_pair
    isplitr; · iexact HrS
    iexact Ht
  isplitl [HaR Hcr]
  · iapply (recvs_zero (c := c))
    isplitl [HaR]; · iexact HaR
    iexact Hcr
  isplitl [Hx]; · iapply (srcs_zero (I := I) (c := c)); iexact Hx
  iapply (keeps_zero (I := I) (c := c))
  iempintro

end Cert.KernelIdeal.Scatter

end
-- ==== Proof.Region.lean ====
/-
  The kernel's region: its proof data, its body, and the record that a launch takes.
-/
module

public import proofs.«01_k».proof.Proof.Entry
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Pipeline.ValueKit

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD)

/-! ## The buffers at entry and at exit -/

/-- A device's buffers at the start, when the region is entered, and when it is left. -/
abbrev V₀ : Valuation τ sig (Elt F) := fun b => m (c, b)
abbrev V₁ : Valuation τ sig (Elt F) := StableHlo.after hostOps0 (V₀ m c)
/-- The region's operands on every device. -/
def Im : Inp F where
  O c := V₁ m c (Proc.devRef .tc main_v1)
  W c := V₁ m c (Proc.devRef .tc main_arg1)
abbrev V₂ : Valuation τ sig (Elt F) := Function.update (V₁ m c) (Proc.devRef .tc main_v2) (outV (Im m) c)
/-- The result's buffer when the region is left. -/
theorem V₂_v2 : V₂ m c (Proc.devRef .tc main_v2) = outV (Im m) c := Function.update_self ..
/-- No other buffer changes in the region. -/
theorem V₂_ne {b : DevRef τ sig} (h : b ≠ Proc.devRef .tc main_v2) : V₂ m c b = V₁ m c b := Function.update_of_ne h ..

/-! ## The proof data -/

/-- The generator's register. -/
abbrev reg (c : Dev nD) : sProp 𝕄 := iprop(∃ r, prngReg c r)

/-- A device's ghost state, its stacks and its register before the one point; the counters at zero after it. -/
def dat0 : Dat τ (Elt F) Unit ℕ UU ℕ cfg0 c where
  A w := V₁ m c (Proc.devRef .tc (Pipeline.arrRef spec0 w))
  after
    | 0 => fun _ => (Im m).O c
    | 1 => fun _ => (Im m).W c
    | 2 => fun _ => outV (Im m) c
    | ⟨_ + 3, h⟩ => absurd h (Nat.not_lt.2 (Nat.le_add_left _ _))
  Φ t := if t.val = 0 then iprop(Ghost (Im m) c ∗ Stacks c ∗ reg c)
    else iprop(semVal (barCell c) 0 ∗ (bigSep Finset.univ fun p : Link × Fin 2 => semVal (lCell p c) 0) ∗ Stacks c ∗ reg c)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

/-- What the device owes when the region is entered. -/
theorem owed_zero : (pdats m 0 c).owed 0 = O₀ c := by
  show (if ((0 : Fin (cfg0.N + 1)).val = 0) then O₀ c else 0) = O₀ c; exact if_pos rfl
/-- What the device owes before the one point. -/
theorem owed_first : (dat0 m c).owed t0_0.castSucc = O₀ c := by
  show (if (t0_0.castSucc : Fin (cfg0.N + 1)).val = 0 then O₀ c else 0) = O₀ c; exact if_pos rfl
/-- The device owes nothing after it. -/
theorem owed_last : (pdats m 0 c).owed (Fin.last _) = 0 := by
  show (if (Fin.last cfg0.N).val = 0 then O₀ c else 0) = 0
  rw [Fin.val_last, if_neg (by rw [show cfg0.N = 1 from N_0]; decide)]
/-- The state before the one point. -/
theorem Φ_first : (pdats m 0 c).Φ 0 = iprop(Ghost (Im m) c ∗ Stacks c ∗ reg c) := by
  show (dat0 m c).Φ 0 = _
  unfold dat0; dsimp only; exact if_pos rfl
/-- The state after it. -/
theorem Φ_last : (pdats m 0 c).Φ (Fin.last _)
    = iprop(semVal (barCell c) 0 ∗ (bigSep Finset.univ fun p : Link × Fin 2 => semVal (lCell p c) 0) ∗ Stacks c ∗ reg c) := by
  show (dat0 m c).Φ (Fin.last cfg0.N) = _
  unfold dat0; dsimp only
  exact if_neg (by rw [Fin.val_last, show cfg0.N = 1 from N_0]; decide)

/-- What the body owes, with the waits recorded so far. -/
theorem owes_in (t : Fin (cfg0.N + 1)) (O : CellTallies nD τ sig Unit) (h : (dat0 m c).owed t = O) :
    ((dat0 m c).owesAt () t : sProp 𝕄) ⊢ iprop(∃ Wd, owes (c : Thread nD τ) O Wd) := by
  unfold Dat.owesAt Pipeline.owesWithin; rw [h]
  iintro ⟨%W, -, HO⟩; iexists W; iexact HO
/-- What a device owes, in the form that the region asks for. -/
theorem owes_out (t : Fin (cfg0.N + 1)) (O : CellTallies nD τ sig Unit) (h : (dat0 m c).owed t = O) :
    iprop(∃ Wd, owes (c : Thread nD τ) O Wd) ⊢ ((dat0 m c).owesAt () t : sProp 𝕄) := by
  unfold Dat.owesAt Pipeline.owesWithin Dat.bound; rw [h, show (dat0 m c).recorded t = Set.univ from rfl]
  iintro ⟨%W, HO⟩; iexists W; isplitr; · ipureintro; exact fun _ _ => Or.inl trivial
  iexact HO

/-! ## The windows -/

/-- A memref owned at a value is its elements at that value. -/
theorem owns_rep {sp : Space} {sh : Shape} {e : EltTy} (M : Memref sig .tc sp sh e) (X : sh.Idx → Elt F e) :
    (owns (c : Thread nD τ) M fullShare X : sProp 𝕄) ⊣⊢ (M.view.loc (c : Thread nD τ) ↦[M.view.set]{fullShare} M.view.rep X) := by
  unfold owns
  constructor
  · iintro ⟨%f, %h, H⟩
    iapply (pointsTo_rep_of_read (c : Thread nD τ) M f fullShare X h)
    iexact H
  · iintro H
    iexists M.view.rep X
    isplitr; · ipureintro; exact View.read_rep _ _
    iexact H

/-- The left operand's block at the point is the whole array. -/
theorem before_0 (d) : (dat0 m c).before 0 t0_0 d = (Im m).O c := by
  unfold Dat.before
  rw [if_pos (fetch0_0 t0_0)]
  funext y
  refine ((cfg0.win 0).fill_xinj (cfg0.grid.coords t0_0) d ((dat0 m c).blockOf 0 t0_0) y).trans ?_
  unfold Dat.blockOf
  show V₁ m c (Proc.devRef .tc main_v1) (((cfg0.win 0).blk t0_0).view.emb y) = V₁ m c (Proc.devRef .tc main_v1) y
  refine congrArg (V₁ m c (Proc.devRef .tc main_v1)) (funext fun a => Fin.ext ?_)
  blk_simp
  exact (congrArg (· + (y a : Nat)) (Nat.zero_mul _)).trans (Nat.zero_add _)
/-- The right operand's block at the point is the whole array. -/
theorem before_1 (d) : (dat0 m c).before 1 t0_0 d = (Im m).W c := by
  unfold Dat.before
  rw [if_pos (fetch0_1 t0_0)]
  funext y
  refine ((cfg0.win 1).fill_xinj (cfg0.grid.coords t0_0) d ((dat0 m c).blockOf 1 t0_0) y).trans ?_
  unfold Dat.blockOf
  show V₁ m c (Proc.devRef .tc main_arg1) (((cfg0.win 1).blk t0_0).view.emb y) = V₁ m c (Proc.devRef .tc main_arg1) y
  refine congrArg (V₁ m c (Proc.devRef .tc main_arg1)) (funext fun a => Fin.ext ?_)
  blk_simp
  exact (congrArg (· + (y a : Nat)) (Nat.zero_mul _)).trans (Nat.zero_add _)
/-- The result's array after the point. -/
theorem arr_2 : (dat0 m c).arrAt 2 cfg0.N = outV (Im m) c := by
  refine (dat0 m c).arrAt_eq_of_covers 2 _ (by decide +kernel) fun t hf y => ?_
  obtain rfl := fin_N0 t
  blk_simp
  refine congrArg (outV (Im m) c) (funext fun a => Fin.ext ?_)
  blk_simp
  exact ((congrArg (· + (y a : Nat)) (Nat.zero_mul _)).trans (Nat.zero_add _)).symm

/-! ## The body -/

/-- What the one point starts from, the windows' staging buffers owned at what the fetches left. -/
theorem body_run_all (d2 : Vec F S2x512x2048 .f32) :
    iprop((Ghost (Im m) c ∗ Stacks c ∗ reg c) ∗ (∃ Wd, owes (c : Thread nD τ) (O₀ c) Wd)
      ∗ owns (c : Thread nD τ) oM fullShare ((Im m).O c) ∗ owns (c : Thread nD τ) wM fullShare ((Im m).W c) ∗ owns (c : Thread nD τ) outM fullShare d2)
    ⊢ Run c (onArgs (cc0_body (F := F))) (fun _ => iprop(Post (Im m) c ∗ reg c)) := by
  refine BIBase.Entails.trans ?_ (wp_frame_r _ _ _)
  unfold Ghost
  iintro ⟨⟨⟨%κ, Hg⟩, Hst, Hreg⟩, HO, H0, H1, H2⟩
  ihave H0 := (owns_rep c oM ((Im m).O c)).mp $$ H0
  ihave H1 := (owns_rep c wM ((Im m).W c)).mp $$ H1
  ihave H2 := (owns_rep c outM d2).mp $$ H2
  isplitr [Hreg]
  · iapply (body_whole (I := Im m) (κ := κ) (c := c) (f₀ := d2))
    iapply (enter (I := Im m) (κ := κ) (c := c) (f₀ := d2))
    isplitl [Hg]; · iexact Hg
    isplitl [Hst]; · iexact Hst
    isplitr [HO]
    · unfold ins outP
      isplitl [H0 H1]
      · isplitl [H0]; · iexact H0
        iexact H1
      iexact H2
    iexact HO
  iexact Hreg

/-- The body's obligation at the one point. -/
theorem body0 : BodyObligation (dat0 m c) defs₀ 𝒱₀ () Set.univ := fun t => by
  obtain rfl := fin_N0 t
  rw [bigSep_W0, bigSep_W0]
  rw [show (dat0 m c).Φ t0_0.castSucc = iprop(Ghost (Im m) c ∗ Stacks c ∗ reg c) from Φ_first m c,
    show (dat0 m c).Φ t0_0.succ = iprop(semVal (barCell c) 0 ∗ (bigSep Finset.univ fun p : Link × Fin 2 => semVal (lCell p c) 0)
      ∗ Stacks c ∗ reg c) from Φ_last m c]
  simp only [before_0, before_1]
  refine BIBase.Entails.trans (Q := iprop(∃ d2 : Vec F S2x512x2048 .f32, (Ghost (Im m) c ∗ Stacks c ∗ reg c) ∗ (∃ Wd, owes (c : Thread nD τ) (O₀ c) Wd)
      ∗ owns (c : Thread nD τ) oM fullShare ((Im m).O c) ∗ owns (c : Thread nD τ) wM fullShare ((Im m).W c) ∗ owns (c : Thread nD τ) outM fullShare d2)) ?_ ?_
  · iintro ⟨HG, HO, ⟨%d0, H0⟩, ⟨%d1, H1⟩, ⟨%d2, H2⟩⟩
    iexists (dat0 m c).before 2 t0_0 d2
    isplitl [HG]; · iexact HG
    isplitl [HO]; · iapply (owes_in m c _ _ (owed_first m c)) $$ HO
    isplitl [H0]; · iexact H0
    isplitl [H1]; · iexact H1
    iexact H2
  refine BIBase.Entails.trans (Q := Run c (onArgs (cc0_body (F := F))) (fun _ => iprop(Post (Im m) c ∗ reg c))) ?_ (wp_mono _ _ _ fun r => ?_)
  · iintro ⟨%d2, H⟩
    iapply (body_run_all m c d2)
    iexact H
  unfold Post ins outP
  iintro ⟨⟨Hb, Hs, Hst, ⟨H0, H1⟩, H2, HO⟩, Hreg⟩
  isplitl [Hb Hs Hst Hreg]
  · isplitl [Hb]; · iexact Hb
    isplitl [Hs]; · iexact Hs
    isplitl [Hst]; · iexact Hst
    iexact Hreg
  isplitl [HO]; · iapply (owes_out m c _ _ (owed_last m c)) $$ HO
  isplitl [H0]; · iapply (owns_rep c oM ((Im m).O c)).mpr $$ H0
  isplitl [H1]; · iapply (owns_rep c wM ((Im m).W c)).mpr $$ H1
  iapply (owns_rep c outM (outV (Im m) c)).mpr $$ H2

end Cert.KernelIdeal.Scatter

end
-- ==== Proof.Talk.lean ====
/-
  The region as a launch takes it: what is kept for it, what it opens, and its record.
-/
module

public import proofs.«01_k».proof.Proof.Region

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD)

/-! ## The stacks and the scoped buffers -/

/-- A stack's chunks, out of its whole buffer. -/
theorem chunks_of_buf {n : ℕ} (b : Ref sig .tc) (B : Memref sig .tc .vmem (SN n) .f32) (hl : B.view.loc (c : Thread nD τ) = (c : Thread nD τ).loc b)
    (h : B.view.set = Finset.univ) :
    (bigSep Finset.univ fun k : Fin n => (chunkAny (chk B k) c : sProp 𝕄))
      ⊣⊢ iprop(∃ f : Buf (Elt F) (B.view.loc (c : Thread nD τ)), B.view.loc (c : Thread nD τ) ↦{fullShare} f) := by
  constructor
  · refine BIBase.Entails.trans (stack_join B c fun _ => Classical.choice inferInstance) ?_
    rw [h]
  · iintro ⟨%f, H⟩
    iapply (stack_split B c f)
    rw [h]
    iexact H

/-- The region's scoped buffers are the six scratch buffers. -/
theorem stacks_of_scoped : (Pipeline.scopedRest (Ix := Unit) (Name := ℕ) (U := UU) (Lvl := ℕ) (Val := Elt F) spec0 c : sProp 𝕄) ⊣⊢ Stacks c := by
  rw [scopedRest0_eq]
  have h {n : ℕ} (b : Ref sig .tc) (B : Memref sig .tc .vmem (SN n) .f32) := chunks_of_buf (F := F) c b B
  constructor
  · iintro ⟨H0, H1, H2, H3, H4, H5⟩
    isplitl [H0]; · iapply (h cc0_scratch0 xsend rfl (View.set_whole _)).mpr $$ H0
    isplitl [H1]; · iapply (h cc0_scratch1 xrecv rfl (View.set_whole _)).mpr $$ H1
    isplitl [H2]; · iapply (h cc0_scratch2 ydrecv rfl (View.set_whole _)).mpr $$ H2
    isplitl [H3]; · iapply (h cc0_scratch3 zdrecv rfl (View.set_whole _)).mpr $$ H3
    isplitl [H4]; · iapply (h cc0_scratch4 yfrecv rfl (View.set_whole _)).mpr $$ H4
    iapply (h cc0_scratch5 zfrecv rfl (View.set_whole _)).mpr $$ H5
  · iintro ⟨H0, H1, H2, H3, H4, H5⟩
    isplitl [H0]; · iapply (h cc0_scratch0 xsend rfl (View.set_whole _)).mp $$ H0
    isplitl [H1]; · iapply (h cc0_scratch1 xrecv rfl (View.set_whole _)).mp $$ H1
    isplitl [H2]; · iapply (h cc0_scratch2 ydrecv rfl (View.set_whole _)).mp $$ H2
    isplitl [H3]; · iapply (h cc0_scratch3 zdrecv rfl (View.set_whole _)).mp $$ H3
    isplitl [H4]; · iapply (h cc0_scratch4 yfrecv rfl (View.set_whole _)).mp $$ H4
    iapply (h cc0_scratch5 zfrecv rfl (View.set_whole _)).mp $$ H5

/-! ## What is kept for the region, and what it opens -/

/-- From the launch to the region: the records, the rights to open the copies' cells, the tokens and the credits. -/
def Tk (c : Dev nD) : sProp 𝕄 :=
  iprop(∃ κ, records (Im m) κ ∗ (bigSep Finset.univ fun p : Link × Fin 2 => openTok ER (lCell p c)) ∗ dealt c ∗ credits c)
def Yk (c : Dev nD) : sProp 𝕄 := semVal (barCell c) 0

/-- A copy's cell's invariant, from the records. -/
theorem records_cell {I : Inp F} {κ : GSem nD τ sig → ℕ} (p : Link × Fin 2) :
    records I κ ⊢ (cellInv ER (Rd I) (κ (lCell p c)) (lCell p c) : sProp 𝕄) := by
  obtain ⟨l, k⟩ := p
  unfold records
  iintro ⟨H, -⟩
  match k with
  | 0 => iapply (recs_send (I := I) (κ := κ) (c := c) l) $$ H
  | 1 => iapply (recs_recv (I := I) (κ := κ) (c := c) l) $$ H

/-- One cell opened. -/
theorem open_one {I : Inp F} {κ : GSem nD τ sig → ℕ} (p : Link × Fin 2) :
    iprop(records I κ ∗ (openTok ER (lCell p c) ∗ semVal (lCell p c) 0))
      ⊢ (|={Set.univ}=> iprop(atPos ER (lCell p c) 0 ∅ 0 ∗ reached ER (lCell p c) 0) : sProp 𝕄) := by
  iintro ⟨#Hr, Ho, Hs⟩
  iapply (Rounds.cell_open ER (Rd I) (g := lCell p c) (Set.mem_univ (κ (lCell p c))))
  isplitr; · iapply (records_cell c p) $$ Hr
  isplitl [Ho] <;> iassumption

/-- All of a device's cells opened. -/
theorem open_all {I : Inp F} {κ : GSem nD τ sig → ℕ} :
    iprop(records I κ ∗ (bigSep Finset.univ fun p : Link × Fin 2 => openTok ER (lCell p c)) ∗ bigSep Finset.univ fun p : Link × Fin 2 => semVal (lCell p c) 0)
      ⊢ (|={Set.univ}=> openedCells c : sProp 𝕄) := by
  unfold openedCells
  refine BIBase.Entails.trans ?_ (bigSep_fupd _ _)
  iintro ⟨#Hr, Ho, Hs⟩
  iapply (bigSep_with_persistent (R := records I κ) (Φ := fun p : Link × Fin 2 => iprop(openTok ER (lCell p c) ∗ semVal (lCell p c) 0))
    fun p _ => open_one c p)
  isplitr; · iexact Hr
  iapply big_pair
  isplitl [Ho] <;> iassumption

/-- The semaphores' invariants are opened at the region's entry. -/
theorem hopen0 : iprop(Tk m c ∗ Pipeline.ownSems0 Link.sem c ∗ levAts L lv) ⊢ (|={Set.univ}=> Ghost (Im m) c : sProp 𝕄) := by
  unfold Tk Ghost Pipeline.ownSems0
  iintro ⟨⟨%κ, #Hr, Ho, Hd, Hc⟩, Hs, -⟩
  imod (open_all c (I := Im m) (κ := κ)) $$ [Ho Hs] with HO
  · isplitr; · iexact Hr
    isplitl [Ho]; · iexact Ho
    iexact Hs
  imodintro
  iexists κ
  isplitr; · iexact Hr
  isplitl [HO]; · iexact HO
  isplitl [Hd] <;> iassumption

/-- Holding no buffer is holding nothing. -/
theorem held_none (W : Valuation τ sig (Elt F)) : (StableHlo.held (c.tc : Thread nD τ) ∅ W : sProp 𝕄) = BI.emp := by
  unfold StableHlo.held; exact BI.bigSep_empty

/-- Entering the region: its scoped buffers and its thread's state give the first state. -/
theorem hin0 : iprop(Pipeline.scopedRest (Pipeline.pin (pcfgs (F := F)) adm 0).spec c ∗ (∃ r, prngReg c r) ∗ StableHlo.held (c.tc : Thread nD τ) ∅ (V₁ m c) ∗ Ghost (Im m) c)
    ⊢ (pdats m 0 c).Φ 0 := by
  rw [Φ_first, held_none]
  iintro ⟨Hs, Hp, -, HG⟩
  isplitl [HG]; · iexact HG
  isplitl [Hs]; · iapply (stacks_of_scoped c).mp $$ Hs
  iexact Hp

/-- Leaving the region: the last state gives the scoped buffers back. -/
theorem hout0 : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 Link.sem c ∗ Yk c) := by
  rw [Φ_last, held_none]
  unfold Yk Pipeline.ownSems0
  iintro ⟨Hb, Hs, Hst, Hp⟩
  isplitl [Hst]; · iapply (stacks_of_scoped c).mpr $$ Hst
  isplitl [Hp]; · iexact Hp
  isplitr; · iempintro
  isplitl [Hs]; · iexact Hs
  iexact Hb

/-! ## The levels -/

/-- What a device owes at entry: units of its neighbours' barriers and the copies that land at them. -/
theorem O₀_pos {g : GSem nD τ sig} {u : Unit} (h : 0 < O₀ c g u) : (∃ d, g = barCell d) ∨ ∃ l d, g = rCell l d := by
  unfold O₀ owed2 owed1 at h
  simp only [Pi.add_apply, Finsupp.add_apply, tallyAt_apply] at h
  by_cases h0 : 0 < owed c Link.all g u
  · obtain ⟨l, -, e⟩ := owed_pos c _ _ _ h0
    exact .inr ⟨l, _, e⟩
  refine .inl ?_
  rw [Nat.eq_zero_of_not_pos h0, Nat.zero_add] at h
  split at h
  · next hg => exact ⟨_, hg.1⟩
  split at h
  · next hg => exact ⟨_, hg.1⟩
  split at h
  · next hg => exact ⟨_, hg.1⟩
  exact absurd h (Nat.lt_irrefl 0)

/-- Whatever the device owes at a point is to an ordered semaphore, above the lowest. -/
theorem cutD (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · rcases O₀_pos c h with ⟨d, rfl⟩ | ⟨l, d, rfl⟩
    · exact ⟨by rw [L_tc]; exact Finset.mem_singleton_self _, by rw [lv_bar]; decide⟩
    · exact ⟨by rw [L_tc]; exact Finset.mem_singleton_self _, by rw [lv_recv]; exact Nat.lt_of_succ_lt (level_pos l)⟩
  · exact absurd h (Nat.lt_irrefl 0)

/-- A staging cell's level is the lowest. -/
theorem lv_stage (w : Fin 3) (s : Fin ((cfg0 : Cfg sig Λ₀).win w).nbuf) : lv ((c : Thread nD τ), .dma ((cfg0.win w).sem s)) () ≤ 0 := by
  have h : ∀ (w : Fin 3) (s : Fin ((cfg0 : Cfg sig Λ₀).win w).nbuf), linkOf (.dma ((cfg0.win w).sem s)) = none := by decide +kernel
  unfold lv
  rw [if_neg (bar_ne _), h w s]

/-! ## The record -/

/-- The launch facts of the region. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers that outlive a kernel, and those of them that are no window's array. -/
abbrev bufs : Finset (DevRef τ sig) := Pipeline.ucRefs τ sig
abbrev rest : Finset (DevRef τ sig) := bufs \ Pipeline.arrRefs (τ := τ) spec0

/-- The result is one of the region's arrays. -/
theorem v2_mem : (Proc.devRef .tc main_v2 : DevRef τ sig) ∈ Pipeline.arrRefs (τ := τ) spec0 := by decide
/-- The region's arrays outlive it. -/
theorem arr_sub : Pipeline.arrRefs (τ := τ) spec0 ⊆ bufs := Pipeline.arrRefs_sub_ucRefs spec0 (by decide)

/-- The arrays at entry. -/
theorem entry_arr (w : Fin 3) : (dat0 m c).arrAt w 0 = V₁ m c (Proc.devRef .tc (Pipeline.arrRef spec0 w)) := rfl
/-- The arrays at exit. -/
theorem exit_arr (w : Fin 3) : (dat0 m c).arrAt w cfg0.N = V₂ m c (Proc.devRef .tc (Pipeline.arrRef spec0 w)) := by
  match w with
  | 0 => exact ((dat0 m c).arrAt_in 0 rfl _).trans (V₂_ne m c (b := Proc.devRef .tc (Pipeline.arrRef spec0 0)) (by decide)).symm
  | 1 => exact ((dat0 m c).arrAt_in 1 rfl _).trans (V₂_ne m c (b := Proc.devRef .tc (Pipeline.arrRef spec0 1)) (by decide)).symm
  | 2 => exact (arr_2 m c).trans (V₂_v2 m c).symm

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 Link.sem (by decide : Pipeline.OwnSemFacts spec0 Link.sem)
    ∅ rest (Finset.empty_subset _) kitP rfl (fun c => (body0 m c).loose)
    (fun _ => 0) O₀ (fun c => (owed_zero m c).trans (zero_add _).symm) (owed_last m) (fun _ => rfl)
    (fun c w => by unfold Dat.share; split <;> rfl)
    (V₁ m) (V₂ m) (fun c b hb => V₂_ne m c fun e => (Finset.mem_sdiff.mp (Finset.mem_sdiff.mp hb).1).2 (e ▸ v2_mem))
    (Tk m) Yk (fun c => Ghost (Im m) c) Yk (hopen0 m) (hin0 m) (hout0 m)
    (fun c => by iintro H; imodintro; iexact H)
    (fun _ => 0)
    ⟨fun c w s => by rw [L_tc]; exact Finset.mem_singleton_self _, fun c w s => lv_stage c w s, fun c t g i h => cutD m c t g i h⟩
    (fun _ => iprop(emp))
    (entry_arr m) (exit_arr m)

end Cert.KernelIdeal.Scatter

end
-- ==== Proof.Deal.lean ====
/-
  What the launch deals: the cells, the duties' tokens, the credits, the records.
-/
module

public import proofs.«01_k».proof.Proof.Talk

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD)

/-! ## The cells -/

/-- No copy's semaphore is the barrier. -/
theorem lsem_ne_bar (p : Link × Fin 2) : Link.sem p ≠ .reg barrier0 := by
  unfold Link.sem; split <;> exact bar_ne _

def barEmb : Dev nD ↪ GSem nD τ sig := ⟨fun c => barCell c, fun _ _ h => congrArg (fun g : GSem nD τ sig => g.1.1) h⟩
def linkEmb : Dev nD × (Link × Fin 2) ↪ GSem nD τ sig :=
  ⟨fun q => lCell q.2 q.1, fun _ _ h => Prod.ext (congrArg (fun g : GSem nD τ sig => g.1.1) h) (Link.sem_inj (congrArg Prod.snd h))⟩

/-- The barriers' cells; the copies' cells. -/
abbrev barCells : Finset (GSem nD τ sig) := Finset.univ.map barEmb
abbrev linkCells : Finset (GSem nD τ sig) := Finset.univ.map linkEmb

/-- The barriers and the copies' semaphores are different cells. -/
theorem disjoint_cells : Disjoint barCells linkCells := by
  rw [Finset.disjoint_left]
  intro g h₁ h₂
  obtain ⟨c, -, rfl⟩ := Finset.mem_map.mp h₁
  obtain ⟨q, -, h⟩ := Finset.mem_map.mp h₂
  exact lsem_ne_bar q.2 (congrArg Prod.snd h)

/-- A family over all the cells is one over the barriers, one over the sends and one over the receives. -/
theorem cells_fam (Φ : GSem nD τ sig → sProp (MT nD τ sig Unit (Elt F) ℕ UU ℕ)) :
    bigSep (barCells ∪ linkCells) Φ = iprop((bigSep Finset.univ fun c : Dev nD => Φ (barCell c))
      ∗ (bigSep Finset.univ fun p : Dev nD × Link => Φ (sCell p.2 p.1)) ∗ bigSep Finset.univ fun p : Dev nD × Link => Φ (rCell p.2 p.1)) := by
  rw [BI.bigSep_union disjoint_cells, BI.bigSep_map, BI.bigSep_map, bigSep_univ_prod, bigSep_univ_prod, bigSep_univ_prod, ← bigSep_sep']
  exact congrArg (fun X => iprop(_ ∗ X)) (bigSep_congr fun c _ => sem_sides fun p => Φ (lCell p c))

/-! ## The tokens -/

/-- Three duties at each barrier, one at each copy's cell, all in round 0. -/
def tokEmb : (Dev nD × Fin 3) ⊕ (Dev nD × (Link × Fin 2)) ↪ GSem nD τ sig × ℕ × Fin 3 where
  toFun
    | .inl q => (barCell q.1, 0, q.2)
    | .inr q => (lCell q.2 q.1, 0, 0)
  inj' := by
    rintro (q | q) (q' | q') h
    · exact congrArg Sum.inl (Prod.ext (congrArg (fun t : GSem nD τ sig × ℕ × Fin 3 => t.1.1.1) h) (congrArg (fun t : GSem nD τ sig × ℕ × Fin 3 => t.2.2) h))
    · exact absurd (congrArg (fun t : GSem nD τ sig × ℕ × Fin 3 => t.1.2) h).symm (lsem_ne_bar q'.2)
    · exact absurd (congrArg (fun t : GSem nD τ sig × ℕ × Fin 3 => t.1.2) h) (lsem_ne_bar q.2)
    · exact congrArg Sum.inr (linkEmb.injective (congrArg (fun t : GSem nD τ sig × ℕ × Fin 3 => t.1) h))
abbrev toks : Finset (GSem nD τ sig × ℕ × Fin 3) := Finset.univ.map tokEmb

/-- The barrier's tokens, each to the neighbour that pays it; the receives' tokens, each to the device that sends. -/
def barTurn : Dev nD × Fin 3 ≃ Dev nD × Fin 3 :=
  ⟨fun q => (nbD q.2 q.1, q.2), fun q => (nbD q.2 q.1, q.2), fun q => Prod.ext (nbD_nbD q.2 q.1) rfl, fun q => Prod.ext (nbD_nbD q.2 q.1) rfl⟩
def linkTurn : Dev nD × Link ≃ Dev nD × Link :=
  ⟨fun q => (q.2.nb q.1, q.2), fun q => (q.2.nb q.1, q.2), fun q => Prod.ext (Link.nb_nb q.2 q.1) rfl, fun q => Prod.ext (Link.nb_nb q.2 q.1) rfl⟩

/-- The tokens of the barriers, dealt to the devices that signal. -/
theorem bar_toks : (bigSep Finset.univ fun q : Dev nD × Fin 3 => (dutyTok ER (barCell q.1) 0 q.2 : sProp 𝕄))
    = bigSep Finset.univ fun c : Dev nD => bigSep Finset.univ fun d : Fin 3 => dutyTok ER (barCell (nbD d c)) 0 d := by
  rw [bigSep_univ_equiv barTurn, bigSep_univ_prod]; rfl
/-- The tokens of the landings, dealt to the devices that send. -/
theorem recv_toks : (bigSep Finset.univ fun q : Dev nD × Link => (dutyTok ER (rCell q.2 q.1) 0 0 : sProp 𝕄))
    = bigSep Finset.univ fun c : Dev nD => bigSep Finset.univ fun l : Link => dutyTok ER (rCell l (l.nb c)) 0 0 := by
  rw [bigSep_univ_equiv linkTurn, bigSep_univ_prod]; rfl

/-- All the tokens, dealt to the devices that pay the duties. -/
theorem toks_dealt : (bigSep toks fun x => (dutyTok ER x.1 x.2.1 x.2.2 : sProp 𝕄))
    = bigSep Finset.univ fun c : Dev nD => iprop((bigSep Finset.univ fun d : Fin 3 => dutyTok ER (barCell (nbD d c)) 0 d)
      ∗ bigSep Finset.univ fun l : Link => iprop(dutyTok ER (sCell l c) 0 0 ∗ dutyTok ER (rCell l (l.nb c)) 0 0)) := by
  rw [BI.bigSep_map, BI.bigSep_univ_sum, bigSep_sep', ← bar_toks,
    bigSep_congr (s := Finset.univ) fun (c : Dev nD) _ => bigSep_sep' Finset.univ (fun l : Link => (dutyTok ER (sCell l c) 0 0 : sProp 𝕄)) fun l => dutyTok ER (rCell l (l.nb c)) 0 0,
    bigSep_sep', ← recv_toks, bigSep_univ_prod (fun q : Dev nD × Link => (dutyTok ER (rCell q.2 q.1) 0 0 : sProp 𝕄)), ← bigSep_sep']
  refine congrArg (fun X => iprop(_ ∗ X)) ?_
  rw [bigSep_univ_prod]
  exact bigSep_congr fun c _ => sem_sides fun p : Link × Fin 2 => (dutyTok ER (lCell p c) 0 0 : sProp 𝕄)

/-! ## The credits -/

/-- What a device owes a barrier through the copies: nothing. -/
theorem owed_at_bar (d : Dev nD) (ls : List Link) : owed d ls (barCell c) () = 0 :=
  Nat.eq_zero_of_not_pos fun h => by
    obtain ⟨l, -, e⟩ := owed_pos d ls _ _ h
    exact bar_ne _ (congrArg Prod.snd e).symm
/-- What a device owes a receive cell: a chunk, if it is the sender. -/
theorem owed_at_recv (l : Link) (d : Dev nD) : ∀ ls : List Link, ls.Nodup →
    owed d ls (rCell l c) () = if l ∈ ls ∧ l.nb d = c then N else 0
  | [], _ => by rw [if_neg fun h => absurd h.1 List.not_mem_nil]; rfl
  | l' :: ls, h => by
    show owed d ls (rCell l c) () + tallyAt (rCell l' (l'.nb d)) () N (rCell l c) () = _
    rw [owed_at_recv l d ls (List.nodup_cons.mp h).2, tallyAt_apply]
    by_cases e : l' = l
    · subst e
      rw [if_neg fun hh => (List.nodup_cons.mp h).1 hh.1, Nat.zero_add]
      by_cases hc : l'.nb d = c
      · subst hc; rw [if_pos ⟨rfl, rfl⟩, if_pos ⟨List.mem_cons_self, rfl⟩]
      · rw [if_neg fun hh => hc (congrArg (fun g : GSem nD τ sig => g.1.1) hh.1).symm, if_neg fun hh => hc hh.2]
    · have z : ¬ (rCell l c = rCell l' (l'.nb d) ∧ () = ()) := fun hh => e (Link.recvS_inj (SemLoc.dma.inj (congrArg Prod.snd hh.1))).symm
      rw [if_neg z, Nat.add_zero]
      refine if_congr ⟨fun hh => ⟨List.mem_cons_of_mem _ hh.1, hh.2⟩, fun hh => ⟨?_, hh.2⟩⟩ rfl rfl
      exact (List.mem_cons.mp hh.1).resolve_left fun q => e q.symm

/-- Different devices have different barriers. -/
theorem bar_eq_iff {d d' : Dev nD} : (barCell d = barCell d') ↔ d = d' :=
  ⟨fun h => congrArg (fun g : GSem nD τ sig => g.1.1) h, fun h => h ▸ rfl⟩

/-- The barrier's credit: a unit from each neighbour. -/
theorem launch_bar : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  have h (d : Dev nD) : O₀ d (barCell c) () = (if d = zn c then 1 else 0) + (if d = yn c then 1 else 0) + (if d = xn c then 1 else 0) := by
    unfold O₀ owed2 owed1
    simp only [Pi.add_apply, Finsupp.add_apply, tallyAt_apply, owed_at_bar, bar_eq_iff, and_true, Nat.zero_add]
    have e (f : Dev nD → Dev nD) (hf : ∀ d, f (f d) = d) : c = f d ↔ d = f c := ⟨fun h => by rw [h, hf], fun h => by rw [h, hf]⟩
    rw [if_congr (e zn zn_zn) rfl rfl, if_congr (e yn yn_yn) rfl rfl, if_congr (e xn xn_xn) rfl rfl]
  rw [Finset.sum_congr rfl fun d _ => h d, Finset.sum_add_distrib, Finset.sum_add_distrib, Finset.sum_ite_eq' , Finset.sum_ite_eq', Finset.sum_ite_eq',
    if_pos (Finset.mem_univ _), if_pos (Finset.mem_univ _), if_pos (Finset.mem_univ _)]

/-- A receive cell's credit: the chunk. -/
theorem launch_recv (l : Link) :
    tallyOn (rCell l c) (launchCredit (Pipeline.owing O₀) 0 (rCell l c)) = (tallyAt (rCell l c) () N : CellTallies nD τ sig Unit) := by
  unfold tallyAt; refine congrArg _ (Finsupp.ext fun u => ?_); cases u
  rw [Pipeline.launchCredit_owing, Finsupp.single_eq_same]
  have h (d : Dev nD) : O₀ d (rCell l c) () = if d = l.nb c then N else 0 := by
    unfold O₀ owed2 owed1
    have hb (d' : Dev nD) : ¬ (rCell l c = barCell d' ∧ True) := fun hh => bar_ne _ (congrArg Prod.snd hh.1)
    simp only [Pi.add_apply, Finsupp.add_apply, tallyAt_apply]
    rw [if_neg (hb _), if_neg (hb _), if_neg (hb _), Nat.add_zero, owed_at_recv c l d Link.all Link.all_nodup]
    exact if_congr ⟨fun h => by rw [← h.2, Link.nb_nb], fun h => ⟨Link.mem_all l, by rw [h, Link.nb_nb]⟩⟩ rfl rfl
  rw [Finset.sum_congr rfl fun d _ => h d, Finset.sum_ite_eq', if_pos (Finset.mem_univ _)]

def recvEmb : Link ↪ SemLoc sig := ⟨fun l => .dma l.recvS, fun _ _ h => Link.recvS_inj (SemLoc.dma.inj h)⟩

/-- The credits that a launch gives a device. -/
theorem creds : (Pipeline.launchCred O₀ c : sProp 𝕄) ⊢ credits c := by
  unfold Pipeline.launchCred credits
  rw [bigSep_univ_at _ (SemLoc.reg barrier0), launch_bar]
  refine sep_mono_right ?_
  refine BIBase.Entails.trans (BI.bigSep_subset (t := Finset.univ.map recvEmb) fun s hs => ?_) (Entails.of_eq ?_)
  · obtain ⟨l, -, rfl⟩ := Finset.mem_map.mp hs
    exact Finset.mem_erase.mpr ⟨bar_ne _, Finset.mem_univ _⟩
  · rw [BI.bigSep_map]
    exact bigSep_congr fun l _ => by rw [← launch_recv c l]; rfl

end Cert.KernelIdeal.Scatter

end
-- ==== Proof.Launch.lean ====
/-
  The run: the program's segments, the launch, the final state.
-/
module

public import proofs.«01_k».proof.Proof.Deal

@[expose] public section

set_option maxRecDepth 16384

noncomputable section

namespace Cert.KernelIdeal.Scatter

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The buffers -/

/-- The first argument when the region is entered. -/
theorem V₁_arg0 : V₁ m c (Proc.devRef .tc main_arg0) = m ((c : Thread nD τ).loc main_arg0) := V_main_arg0 m c
/-- The second argument when the region is entered. -/
theorem V₁_arg1 : V₁ m c (Proc.devRef .tc main_arg1) = m ((c : Thread nD τ).loc main_arg1) := V_main_arg1 m c
/-- The first argument when the region is left. -/
theorem V₂_arg0 : V₂ m c (Proc.devRef .tc main_arg0) = m ((c : Thread nD τ).loc main_arg0) := (V₂_ne m c (by decide)).trans (V₁_arg0 m c)
/-- The second argument when the region is left. -/
theorem V₂_arg1 : V₂ m c (Proc.devRef .tc main_arg1) = m ((c : Thread nD τ).loc main_arg1) := (V₂_ne m c (by decide)).trans (V₁_arg1 m c)

/-- The buffers that outlive the kernel, one by one. -/
theorem bufs_list (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_v1) ↦{fullShare} W (Proc.devRef .tc main_v1)) ∗ (((c : Thread nD τ).loc main_v2) ↦{fullShare} W (Proc.devRef .tc main_v2))) := by
  unfold StableHlo.held bufs Pipeline.ucRefs
  rw [bigSep_eq_bigSepL_of_eq [Proc.devRef .tc main_arg0, Proc.devRef .tc main_arg1, Proc.devRef .tc main_v1, Proc.devRef .tc main_v2] (by decide) (by decide)]
  rfl

/-- The barrier is the only semaphore that outlives the kernel. -/
theorem unscoped_bar : ∀ sm : SemLoc sig, sm.isScoped .tc = false → sm = .reg barrier0 := by decide
/-- So it is all that a device holds of such semaphores. -/
theorem unscopedSems_bar : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-! ## The segments -/

/-- What rides beside the buffers up to the region. -/
def R (c : Dev nD) : sProp 𝕄 := iprop(Tk m c ∗ reg c ∗ ∃ Wd, owes (c : Thread nD τ) (O₀ c) Wd)

/-- The host's reshape. -/
def seg0 : Pipeline.HostSeg (Name := ℕ) (U := UU) (pcfgs (F := F)) defs₀ 𝒱₀ L lv :=
  Pipeline.HostSeg.ofOps _ _ _ _ _ bufs hostOps0 (fun op h => Pipeline.sub_ucRefs op (List.forall_iff_forall_mem.mp hostOps0_sub op h))
    (List.forall_iff_forall_mem.mp hostOps0_fresh) (V₀ m) (R m)

def segs : List (Pipeline.Seg (pcfgs (F := F)) adm (pdats m) () defs₀ 𝒱₀ L lv) := [.host (seg0 m), .region (reg0 m)]

/-- The host function as its two segments. -/
theorem main_eq : main (F := F) c = Pipeline.Seg.run (segs m) := main_segs adm (pdats m) () 𝒱₀ L lv (seg0 m) (reg0 m) rfl c

/-- What the region needs, from what the host holds. -/
theorem reg0_pre : iprop(StableHlo.held (c : Thread nD τ) bufs (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) rest (V₁ m c) ∗ emp) ∗ Tk m c ∗ ∃ Wd, owes (c : Thread nD τ) (0 + O₀ c) Wd)
  rw [zero_add, StableHlo.held_sub_split (c.tc : Thread nD τ) arr_sub (V₁ m c)]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What the region leaves, as what the host holds. -/
theorem reg0_post : (reg0 m).post c ⊢ iprop((StableHlo.held (c : Thread nD τ) bufs (V₂ m c) ∗ semVal (barCell c) 0)
    ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  rw [StableHlo.held_sub_split (c.tc : Thread nD τ) arr_sub (V₂ m c)]
  unfold Yk
  iintro ⟨Ha, -, ⟨Hr, -⟩, Hb, HO⟩
  isplitr [HO]
  · isplitl [Ha Hr]
    · isplitl [Ha]; · iexact Ha
      iexact Hr
    iexact Hb
  iexact HO

/-! ## The launch -/

/-- The launch's element: the pipeline's cells and the protocol's. -/
def u₀ : UU :=
  (initOf (Pipeline.cells (Pipeline.pin (pcfgs (F := F)) adm) cellOf_inj) (Pipeline.launchToks (Pipeline.pin (pcfgs (F := F)) adm) cellOf_inj),
    launchOf barCells linkCells toks)

/-- The protocol's element, with device 0 until all devices are together. -/
def G (c : Dev nD) : sProp 𝕄 := if c = 0 then BI.own (ER (launchOf barCells linkCells toks)) else iprop(emp)
/-- The devices' ghost state, put together. -/
theorem G_all : bigSep Finset.univ (G (F := F)) = BI.own (ER (launchOf barCells linkCells toks)) := by
  have h : ∀ c ∈ Finset.univ.erase (0 : Dev nD), G (F := F) c = (BI.emp : sProp 𝕄) := fun c hc => if_neg (Finset.ne_of_mem_erase hc)
  rw [bigSep_univ_at _ (0 : Dev nD), bigSep_congr h, BI.bigSep_emp_const, show G (F := F) 0 = BI.own (ER (launchOf barCells linkCells toks)) from if_pos rfl]
  exact BI.equiv_iff.mp sep_emp

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- A device's own part of the launch: its buffers, register and dues; its credits. -/
def own0 (c : Dev nD) : sProp 𝕄 :=
  iprop((StableHlo.held (c : Thread nD τ) bufs (V₀ m c) ∗ reg c ∗ ∃ Wd, owes (c : Thread nD τ) (O₀ c) Wd) ∗ credits c)

/-- What a launch gives one device. -/
theorem launch_one : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(own0 m c ∗ semVal (barCell c) 0 ∗ G c) : sProp 𝕄) := by
  rw [show unscopedBufs c (fun b => m ((c : Thread nD τ).loc b)) = StableHlo.held (c : Thread nD τ) bufs (V₀ m c) from Pipeline.unscopedBufs_held c (V₀ m c),
    unscopedSems_bar]
  unfold own0
  iintro ⟨Hh, Hb, HO, Hc, Hp, HG⟩
  isplitl [Hh HO Hc Hp]
  · isplitl [Hh HO Hp]
    · isplitl [Hh]; · iexact Hh
      isplitl [Hp]; · iexists ρ c; iexact Hp
      iexists ∅; iexact HO
    iapply (creds c) $$ Hc
  isplitl [Hb] <;> iassumption

/-- With the records, what is dealt to a device is what the program starts from. -/
theorem start_one {κ : GSem nD τ sig → ℕ} :
    iprop(records (Im m) κ ∗ (((bigSep Finset.univ fun p : Link × Fin 2 => openTok ER (lCell p c)) ∗ dealt c) ∗ own0 m c)) ⊢ T₀ m c := by
  unfold own0 T₀ R Tk
  iintro ⟨#Hr, ⟨Ho, Hd⟩, ⟨Hh, Hp, HO⟩, Hc⟩
  isplitl [Hh]; · iexact Hh
  isplitr [Hp HO]
  · iexists κ
    isplitr; · iexact Hr
    isplitl [Ho]; · iexact Ho
    isplitl [Hd] <;> iassumption
  isplitl [Hp] <;> iassumption

/-- A family over the barriers, device by device. -/
theorem bar_fam (Φ : GSem nD τ sig → sProp (MT nD τ sig Unit (Elt F) ℕ UU ℕ)) : bigSep barCells Φ = bigSep Finset.univ fun c : Dev nD => Φ (barCell c) :=
  BI.bigSep_map barEmb
/-- The opening tokens of the copies' semaphores, device by device. -/
theorem open_fam : (bigSep linkCells fun g => (openTok ER g : sProp 𝕄))
    = bigSep Finset.univ fun c : Dev nD => bigSep Finset.univ fun p : Link × Fin 2 => openTok ER (lCell p c) := by
  rw [BI.bigSep_map, bigSep_univ_prod]; rfl

/-- What the protocol's element gives, all devices together. -/
theorem fund : iprop((bigSep Finset.univ fun c : Dev nD => semVal (barCell c) 0) ∗ BI.own (ER (launchOf barCells linkCells toks)) ∗ levAts L lv)
    ⊢ (|={Set.univ}=> iprop(∃ κ, records (Im m) κ
      ∗ bigSep Finset.univ fun c : Dev nD => iprop((bigSep Finset.univ fun p : Link × Fin 2 => openTok ER (lCell p c)) ∗ dealt c)) : sProp 𝕄) := by
  have hd : iprop((bigSep Finset.univ fun c : Dev nD => atPos ER (barCell c) 0 ∅ 0)
        ∗ bigSep Finset.univ fun c : Dev nD => iprop((bigSep Finset.univ fun d : Fin 3 => dutyTok ER (barCell (nbD d c)) 0 d)
          ∗ bigSep Finset.univ fun l : Link => iprop(dutyTok ER (sCell l c) 0 0 ∗ dutyTok ER (rCell l (l.nb c)) 0 0)))
      ⊢ (bigSep Finset.univ fun c : Dev nD => dealt c : sProp 𝕄) := big_pair
  iintro ⟨Hv, Hu, #Hlev⟩
  imod (Rounds.fund_launch ER (Rd (Im m)) disjoint_cells (fun g _ h => h) toks) $$ [Hv Hu] with ⟨%κ, -, #Hinv, #Hr, Hat, Hopen, Htok⟩
  · isplitl [Hv]
    · iapply (Entails.of_eq (bar_fam (fun g => (semVal g 0 : sProp 𝕄))).symm) $$ Hv
    · iexact Hu
  imodintro
  iexists κ
  isplitr
  · unfold records recs
    isplitr
    · isplitr; · iexact Hlev
      iapply (Entails.of_eq (cells_fam (fun g => (cellInv ER (Rd (Im m)) (κ g) g : sProp 𝕄)))) $$ Hinv
    · iapply (Entails.of_eq (bar_fam (fun g => (reached ER g 0 : sProp 𝕄)))) $$ Hr
  iapply big_pair
  isplitl [Hopen]; · iapply (Entails.of_eq open_fam) $$ Hopen
  iapply hd
  isplitl [Hat]; · iapply (Entails.of_eq (bar_fam (fun g => (atPos ER g 0 ∅ 0 : sProp 𝕄)))) $$ Hat
  iapply (Entails.of_eq toks_dealt) $$ Htok

/-- From a launch to the threads' first states. -/
theorem init : iprop((bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c)) ∗ levAts L lv)
    ⊢ (|={Set.univ}=> bigSep Finset.univ (T₀ m) : sProp 𝕄) := by
  iintro ⟨H, #Hlev⟩
  ihave H := (big_mono (launch_one m ρ)) $$ H
  ihave H := big_unpair $$ H
  icases H with ⟨Hown, H⟩
  ihave H := big_unpair $$ H
  icases H with ⟨Hv, HG⟩
  ihave HG := (Entails.of_eq (G_all (F := F))) $$ HG
  imod (fund m) $$ [Hv HG] with ⟨%κ, #Hr, Hd⟩
  · isplitl [Hv]; · iexact Hv
    isplitl [HG]; · iexact HG
    iexact Hlev
  imodintro
  iapply (bigSep_with_persistent (R := records (Im m) κ)
    (Φ := fun c => iprop(((bigSep Finset.univ fun p : Link × Fin 2 => openTok ER (lCell p c)) ∗ dealt c) ∗ own0 m c)) fun c _ => start_one m c)
  isplitr; · iexact Hr
  iapply big_pair
  isplitl [Hd]; · iexact Hd
  iexact Hown

/-! ## The run -/

set_option backward.isDefEq.respectTransparency.types false in
/-- From any memory, with the counters at zero, every weakly fair execution ends; then each device's result is `outV`, its arguments are
    as they were, and every counter is zero. -/
theorem run_main : θ_run defs (onTc (τ := τ) (main (F := F))) ⟨m, fun _ => 0, ρ⟩
    (fun r => (∀ c : Dev nD, r.2.mem ((c.tc : Thread nD τ).loc main_v2) = outV (Im m) c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      rw [G_all]
      iintro Hu
      ihave H := (ownU_pair _ _) $$ Hu
      icases H with ⟨HP, HX⟩
      imodintro
      isplitl [HP]; · iexact HP
      iexact HX)
    (T₀ := T₀ m) (Tₙ := Tₙ m)
    (hch := ⟨fun c => .rfl, fun c => reg0_pre m c, fun c => reg0_post m c⟩)
    (hinit := init m ρ)
    (QY := fun c s => (s.mem ((c.tc : Thread nD τ).loc main_v2) = V₂ m c (Proc.devRef .tc main_v2)
        ∧ s.mem ((c.tc : Thread nD τ).loc main_arg0) = V₂ m c (Proc.devRef .tc main_arg0)
        ∧ s.mem ((c.tc : Thread nD τ).loc main_arg1) = V₂ m c (Proc.devRef .tc main_arg1)) ∧ s.sem (barCell c) = 0)
    (hfin := fun c s' => by
      dsimp only [Tₙ]; rw [bufs_list]
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h2, Buf.eq_of_forall_mem_univ h0, Buf.eq_of_forall_mem_univ h1⟩, by simpa using hb⟩
      iexact HSI)
    (hQ := fun s h hs => ⟨fun c => by
        obtain ⟨⟨h2, h0, h1⟩, -⟩ := h c
        rw [V₂_v2] at h2; rw [V₂_arg0] at h0; rw [V₂_arg1] at h1
        exact ⟨h2, h0, h1⟩,
      sem_eq_zero hs fun c sm hsm => by
        obtain rfl := unscoped_bar sm hsm
        exact (h c).2⟩)

end Cert.KernelIdeal.Scatter

end
-- ==== Proof.Twin.lean ====
/-
  The kernel's program and its ideal twin's are one text, so the twin's run is the kernel's.
-/
module

public import proofs.«01_k».proof.Defs
public import proofs.«01_k».proof.Proof.Gen.Kernel
public import proofs.«01_k».proof.Proof.Launch

@[expose] public section

noncomputable section

namespace Cert.KernelIdeal.Scatter

open Idealize.ShloMosaic Idealize.ShloMosaic.TcCoe Idealize.SL.Sem

variable {F : FTy → Type} [FloatOps F]

/-- The two programs run the same body. -/
theorem twin_defs₀ : Cert.Kernel.defs₀ (F := F) = Cert.KernelIdeal.defs₀ (F := F) := by chain_rfl
/-- The two programs have the same body table. -/
theorem twin_defs : Cert.Kernel.defs (F := F) = Cert.KernelIdeal.defs (F := F) :=
  congrArg (Pipeline.defs Cert.KernelIdeal.pcfgs) twin_defs₀
/-- The two programs have the same host function. -/
theorem twin_main : Cert.Kernel.main (F := F) = Cert.KernelIdeal.main (F := F) := by chain_rfl

/-- The frame of any program equal to the ideal twin: every execution ends, the arguments as they
    were and the counters at zero. -/
theorem frame_of_eq (d : Defs nD τ sig (Elt F) (Pipeline.Sig Λ₀ (Fin 1) fun p => (pcfgs (F := F) p).Adm))
    (mn : Dev nD → Prog (TpuEff nD τ sig (Elt F) (Pipeline.Sig Λ₀ (Fin 1) fun p => (pcfgs (F := F) p).Adm) .tc) PUnit)
    (hd : d = defs) (hm : mn = main) (m : (ℓ : Loc nD τ sig) → Buf (Elt F) ℓ) (ρ : Dev nD → PrngReg) :
    θ_run d (onTc (τ := τ) mn) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  subst hd hm
  exact (θ_run defs _ _).mono (fun _ h => And.intro (fun c => (h.1 c).2) h.2) (run_main m ρ)

end Cert.KernelIdeal.Scatter

end
-- ==== Proof.Value.lean ====
/-
  The result over the extended reals: each element of the kernel's result is the sum of two halves of
  the reference's inner product, the half that the device computed and the half that it received.
-/
module

public import proofs.«01_k».proof.Proof.Launch
public import proofs.«01_k».proof.Proof.Gen.ReferenceIdeal.Run
public import Idealize.ShloMosaic.Lib.MatmulPlain
public import Idealize.ShloMosaic.Lib.ValueLayout
public import Idealize.ShloMosaic.Lib.Layout

@[expose] public section

set_option maxRecDepth 16384

noncomputable section

namespace Cert.KernelIdeal.Scatter

open Idealize.ShloMosaic hiding ix2 ix3 ix4 eq_ix3 eq_ix4
open Idealize.ShloMosaic.TcCoe
open Cert.KernelIdeal.Gen
open Idealize.ShloMosaic.ValueIdx
open Idealize.ShloMosaic.VecWindow (window)

/-! ## One product of the kernel -/

/-- Row `s` of batch `b` of `O` against column `n` of `W`. -/
def rowDot (O : Vec Ideal S2x1024x1024 .f32) (W : Vec Ideal S1024x2048 .f32) (b : Fin 2) (s : Fin 1024) (n : Fin 2048) : EReal :=
  ∑ k : Fin 1024, (O (ix3 b s k) * W (ix2 k n) : EReal)

/-- The product of 32 rows, read at an index. -/
theorem pay1_apply (o : Vec Ideal S1x32x1024 .f32) (W : Vec Ideal S1024x2048 .f32) (r : Fin 32) (n : Fin 2048) :
    k0_pay1 (F := Ideal) o W (ix4 (0 : Fin 1) (0 : Fin 1) r n) = (∑ k : Fin 1024, (o (ix3 (0 : Fin 1) r k) * W (ix2 k n) : EReal)) := by
  unfold k0_pay1
  refine (shapeCast_apply _ shapeCasts_S32x2048_S1x1x32x2048 _ (ix2 r n) ?_).trans ?_
  · rw [Shape.rowMajor_val_four, Shape.rowMajor_val_two]
    show r.val * 2048 + n.val = ((0 * 1 + 0) * 32 + r.val) * 2048 + n.val
    omega
  · refine (Ideal.matmul_plain_apply (M := 32) (K := 1024) (N := 2048) none _ _ _ r n).trans ?_
    refine (congrArg (· + _) (Ideal.ofBits_zero_f32)).trans ((zero_add _).trans ?_)
    refine Finset.sum_congr rfl fun k _ => congr (congrArg _ ?_) ?_
    · exact shapeCast_1ab_ab_apply o shapeCasts_S1x32x1024_S32x1024 r k
    · exact shapeCast_apply W shapeCasts_S1024x2048_S1024x2048 (ix2 k n) (ix2 k n) rfl

/-- The product of 128 rows, read at an index. -/
theorem pay11_apply (o : Vec Ideal S1x128x1024 .f32) (W : Vec Ideal S1024x2048 .f32) (r : Fin 128) (n : Fin 2048) :
    k0_pay11 (F := Ideal) o W (ix3 (0 : Fin 1) r n) = (∑ k : Fin 1024, (o (ix3 (0 : Fin 1) r k) * W (ix2 k n) : EReal)) := by
  unfold k0_pay11
  refine (shapeCast_ab_1ab_apply _ shapeCasts_S128x2048_S1x128x2048 0 r n).trans ?_
  refine (Ideal.matmul_plain_apply (M := 128) (K := 1024) (N := 2048) none _ _ _ r n).trans ?_
  refine (congrArg (· + _) (Ideal.ofBits_zero_f32)).trans ((zero_add _).trans ?_)
  refine Finset.sum_congr rfl fun k _ => congr (congrArg _ ?_) ?_
  · exact shapeCast_1ab_ab_apply o shapeCasts_S1x128x1024_S128x1024 r k
  · exact shapeCast_apply W shapeCasts_S1024x2048_S1024x2048 (ix2 k n) (ix2 k n) rfl

/-! ## The two summands of an element -/

variable (I : Inp Ideal) (c : Dev nD)

/-- The row of the whole result that is row `s` of the device's part. -/
def rowAt (c : Dev nD) (s : Fin 512) : Fin 1024 := ⟨own c + s.val, by have := own_le c; omega⟩

/-- The device's own summand. -/
theorem ownAt_eq (b : Fin 2) (s : Fin 512) (n : Fin 2048) :
    ownAt I c b s n = rowDot (I.O c) (I.W c) b (rowAt c s) n := by
  refine (pay11_apply _ _ (rOf s) n).trans (Finset.sum_congr rfl fun k _ => congr (congrArg _ (congrArg (I.O c) ?_)) rfl)
  funext a
  match a with
  | ⟨0, _⟩ => exact Fin.ext (show b.val + 1 * 0 = b.val by omega)
  | ⟨1, _⟩ => exact Fin.ext (show own c + 128 * (s.val / 128) + 1 * (s.val % 128) = own c + s.val by omega)
  | ⟨2, _⟩ => exact Fin.ext (show 0 + 1 * k.val = k.val by omega)

/-- The device across the first axis whose product the device receives for row `s`. -/
def srcOf (c : Dev nD) (s : Fin 512) : Dev nD := xn (dd (dirOf c (qOf s)) c)

/-- The sender's rows to send are the device's own rows. -/
theorem src_oth : ∀ (c : Dev nD) (d : Fin 4), oth (xn (dd d c)) = own c := by decide
/-- The sender computes the other half of the inner product. -/
theorem src_half : ∀ (c : Dev nD) (d : Fin 4), (xn (dd d c)).val / 4 = 1 - c.val / 4 := by decide
/-- The sender's quarter is the one asked for. -/
theorem src_qt : ∀ (c : Dev nD) (q : Fin 4), qt (xn (dd (dirOf c q) c)) = q.val := by decide

/-- The received summand. -/
theorem pieceAt_eq (b : Fin 2) (s : Fin 512) (n : Fin 2048) :
    pieceAt I c b s n = rowDot (I.O (srcOf c s)) (I.W (srcOf c s)) b (rowAt c s) n := by
  have h1 : oth (srcOf c s) = own c := src_oth c _
  have h2 : qt (srcOf c s) = s.val / 128 := src_qt c (qOf s)
  refine (pay1_apply _ _ (wOf s) n).trans (Finset.sum_congr rfl fun k _ => congr (congrArg _ (congrArg (I.O (srcOf c s)) ?_)) rfl)
  funext a
  match a with
  | ⟨0, _⟩ => exact Fin.ext (show b.val + 1 * 0 = b.val by omega)
  | ⟨1, _⟩ => exact Fin.ext (show oth (srcOf c s) + 128 * qt (srcOf c s) + 32 * ((s.val % 128) / 32) + 1 * (s.val % 32) = own c + s.val by omega)
  | ⟨2, _⟩ => exact Fin.ext (show 0 + 1 * k.val = k.val by omega)

/-! ## The reference -/

/-- The reference's rows: the heads and the lanes of a head are one axis. -/
def wide (X : Vec Ideal ⟨4, ![2, 1024, 32, 64]⟩ .f32) (b : Fin 2) (s : Fin 1024) (k : Fin 2048) : EReal :=
  X (ix4 b s (⟨k.val / 64, by omega⟩ : Fin 32) (⟨k.val % 64, by omega⟩ : Fin 64))

/-- Half `x` of the reference's inner product. -/
def halfDot (X : Vec Ideal ⟨4, ![2, 1024, 32, 64]⟩ .f32) (Y : Vec Ideal ⟨2, ![2048, 2048]⟩ .f32) (x : Fin 2)
    (b : Fin 2) (s : Fin 1024) (n : Fin 2048) : EReal :=
  ∑ k : Fin 1024, (wide X b s ⟨1024 * x.val + k.val, by omega⟩ * Y (ix2 (⟨1024 * x.val + k.val, by omega⟩ : Fin 2048) n) : EReal)

/-- The reference's result. -/
def refV (X : Vec Ideal ⟨4, ![2, 1024, 32, 64]⟩ .f32) (Y : Vec Ideal ⟨2, ![2048, 2048]⟩ .f32) : Vec Ideal ⟨3, ![2, 1024, 2048]⟩ .f32 :=
  Host.dotGeneral (F := Ideal) (φ₁ := .f32) (φ₂ := .f32) Cert.ReferenceIdeal.dot_S2x1024x2048_S2048x2048_S2x1024x2048_2_0_01_1_n_n none
    (shapeCast _ X Cert.ReferenceIdeal.Gen.shapeCasts_S2x1024x32x64_S2x1024x2048) Y

/-- The reference's result, read at an index. -/
theorem refV_apply (X : Vec Ideal ⟨4, ![2, 1024, 32, 64]⟩ .f32) (Y : Vec Ideal ⟨2, ![2048, 2048]⟩ .f32)
    (b : Fin 2) (s : Fin 1024) (n : Fin 2048) :
    refV X Y (ix3 b s n) = (∑ k : Fin 2048, (wide X b s k * Y (ix2 k n) : EReal)) := by
  unfold refV
  refine (Ideal.dotGeneral_apply _ none _ _ _ _).trans ?_
  rw [← Equiv.sum_comp (contrEquiv1 Cert.ReferenceIdeal.dot_S2x1024x2048_S2048x2048_S2x1024x2048_2_0_01_1_n_n 2048 rfl rfl).symm]
  refine Finset.sum_congr rfl fun k _ => congr (congrArg _ ?_) (congrArg Y ?_)
  · have hk := contrEquiv1_symm_val Cert.ReferenceIdeal.dot_S2x1024x2048_S2048x2048_S2x1024x2048_2_0_01_1_n_n 2048 rfl rfl k
    refine shapeCast_apply X _ _ _ ?_
    rw [Shape.rowMajor_val_four, Shape.rowMajor_val_three]
    show ((b.val * 1024 + s.val) * 32 + k.val / 64) * 64 + k.val % 64 = (b.val * 1024 + s.val) * 2048 + k.val
    omega
  · funext a
    match a with
    | ⟨0, _⟩ => rfl
    | ⟨1, _⟩ => rfl

/-- It is the sum of its two halves. -/
theorem refV_halves (X : Vec Ideal ⟨4, ![2, 1024, 32, 64]⟩ .f32) (Y : Vec Ideal ⟨2, ![2048, 2048]⟩ .f32)
    (b : Fin 2) (s : Fin 1024) (n : Fin 2048) :
    refV X Y (ix3 b s n) = halfDot X Y 0 b s n + halfDot X Y 1 b s n := by
  refine (refV_apply X Y b s n).trans ((Fin.sum_univ_add (a := 1024) (b := 1024) fun k => (wide X b s k * Y (ix2 k n) : EReal)).trans ?_)
  refine congr (congrArg _ (Finset.sum_congr rfl fun k _ => ?_)) (Finset.sum_congr rfl fun k _ => ?_)
  · have e : (Fin.castAdd 1024 k : Fin 2048) = ⟨1024 * (0 : Fin 2).val + k.val, by omega⟩ := Fin.ext (by show k.val = 1024 * 0 + k.val; omega)
    rw [e]
  · have e : (Fin.natAdd 1024 k : Fin 2048) = ⟨1024 * (1 : Fin 2).val + k.val, by omega⟩ := Fin.ext (by show 1024 + k.val = 1024 * 1 + k.val; omega)
    rw [e]

/-! ## The placement -/

/-- The half of the inner product that a device computes. -/
def hx (c : Dev nD) : Fin 2 := ⟨c.val / 4, by have : c.val < 8 := c.isLt; omega⟩

/-- The operands are the devices' blocks of the reference's. -/
structure Placed (X : Vec Ideal ⟨4, ![2, 1024, 32, 64]⟩ .f32) (Y : Vec Ideal ⟨2, ![2048, 2048]⟩ .f32) : Prop where
  /-- The left operand: the heads are cut along the first mesh axis. -/
  left : ∀ (c : Dev nD) (b : Fin 2) (s k : Fin 1024), I.O c (ix3 b s k) = wide X b s ⟨1024 * (hx c).val + k.val, by omega⟩
  /-- The right operand: its rows are cut along the first mesh axis. -/
  right : ∀ (c : Dev nD) (k : Fin 1024) (n : Fin 2048), I.W c (ix2 k n) = Y (ix2 (⟨1024 * (hx c).val + k.val, by omega⟩ : Fin 2048) n)

variable {I} {X : Vec Ideal ⟨4, ![2, 1024, 32, 64]⟩ .f32} {Y : Vec Ideal ⟨2, ![2048, 2048]⟩ .f32}

/-- A device's product is its half of the reference's. -/
theorem rowDot_half (h : Placed I X Y) (b : Fin 2) (s : Fin 1024) (n : Fin 2048) :
    rowDot (I.O c) (I.W c) b s n = halfDot X Y (hx c) b s n :=
  Finset.sum_congr rfl fun k _ => congr (congrArg _ (h.left c b s k)) (h.right c k n)

/-- An element of the device's result is the reference's, of the device's rows. -/
theorem outV_apply (h : Placed I X Y) (b : Fin 2) (s : Fin 512) (n : Fin 2048) :
    outV I c (ix3 b s n) = refV X Y (ix3 b (rowAt c s) n) := by
  have hs : (hx (srcOf c s)).val = 1 - (hx c).val := src_half c _
  refine Eq.trans ?_ (refV_halves X Y b (rowAt c s) n).symm
  show (ownAt I c b s n : EReal) + pieceAt I c b s n = _
  rw [ownAt_eq, pieceAt_eq, rowDot_half c h, rowDot_half _ h]
  rcases (show (hx c).val = 0 ∨ (hx c).val = 1 by omega) with h0 | h1
  · rw [show hx c = 0 from Fin.ext h0, show hx (srcOf c s) = 1 from Fin.ext (by rw [hs, h0]; rfl)]
  · rw [show hx c = 1 from Fin.ext h1, show hx (srcOf c s) = 0 from Fin.ext (by rw [hs, h1]; rfl)]
    exact add_comm _ _

/-- The device's result is its block of the reference's. -/
theorem outV_block (h : Placed I X Y) :
    outV I c = Layout.blockN ⟨3, ![2, 512, 2048]⟩ ⟨3, ![2, 1024, 2048]⟩ (Layout.meshBlock [2, 2, 2] ![[], [0], []] c) (refV X Y) := by
  funext y
  obtain ⟨b, s, n, rfl⟩ : ∃ (b : Fin 2) (s : Fin 512) (n : Fin 2048), y = ix3 b s n := ⟨y 0, y 1, y 2, eq_ix3 y⟩
  refine (outV_apply c h b s n).trans (congrArg (refV X Y) ?_)
  funext a
  match a with
  | ⟨0, _⟩ => exact Fin.ext (show b.val = 0 * 2 + b.val by omega)
  | ⟨1, _⟩ => exact Fin.ext (show 512 * (c.val / 4) + s.val = (c.val / 4 % 2 * 1 + 0) * 512 + s.val by have : c.val < 8 := c.isLt; omega)
  | ⟨2, _⟩ => exact Fin.ext (show n.val = 0 * 2048 + n.val by omega)

/-- The operands that the launch hands the kernel are placed so, when its arguments are the devices' blocks. -/
theorem placed (m : (ℓ : Loc nD τ sig) → Buf (Elt Ideal) ℓ)
    (hO : ∀ c : Dev nD, m ((c.tc : Thread nD τ).loc main_arg0)
      = Layout.blockN ⟨4, ![2, 1024, 16, 64]⟩ ⟨4, ![2, 1024, 32, 64]⟩ (Layout.meshBlock [2, 2, 2] ![[], [], [0], []] c) X)
    (hW : ∀ c : Dev nD, m ((c.tc : Thread nD τ).loc main_arg1)
      = Layout.blockN ⟨2, ![1024, 2048]⟩ ⟨2, ![2048, 2048]⟩ (Layout.meshBlock [2, 2, 2] ![[0], []] c) Y) :
    Placed (Im m) X Y where
  left c b s k := by
    have e : V₁ m c (Proc.devRef .tc main_v1) = shapeCast _ (m ((c.tc : Thread nD τ).loc main_arg0)) shapeCasts_S2x1024x16x64_S2x1024x1024 := by
      show StableHlo.after hostOps0 _ _ = _
      after_results <;> rfl
    refine (congrFun e (ix3 b s k)).trans ((shapeCast_apply _ _ (ix3 b s k)
      (ix4 b s (⟨k.val / 64, by omega⟩ : Fin 16) (⟨k.val % 64, by omega⟩ : Fin 64)) ?_).trans ?_)
    · rw [Shape.rowMajor_val_four, Shape.rowMajor_val_three]
      show ((b.val * 1024 + s.val) * 16 + k.val / 64) * 64 + k.val % 64 = (b.val * 1024 + s.val) * 1024 + k.val
      omega
    · refine (congrFun (hO c) _).trans (congrArg X ?_)
      have : c.val < 8 := c.isLt
      funext a
      match a with
      | ⟨0, _⟩ => exact Fin.ext (show 0 * 2 + b.val = b.val by omega)
      | ⟨1, _⟩ => exact Fin.ext (show 0 * 1024 + s.val = s.val by omega)
      | ⟨2, _⟩ => exact Fin.ext (show (c.val / 4 % 2 * 1 + 0) * 16 + k.val / 64 = (1024 * (c.val / 4) + k.val) / 64 by omega)
      | ⟨3, _⟩ => exact Fin.ext (show 0 * 64 + k.val % 64 = (1024 * (c.val / 4) + k.val) % 64 by omega)
  right c k n := by
    refine (congrFun ((V₁_arg1 m c).trans (hW c)) (ix2 k n)).trans (congrArg Y ?_)
    have : c.val < 8 := c.isLt
    funext a
    match a with
    | ⟨0, _⟩ => exact Fin.ext (show (c.val / 4 % 2 * 1 + 0) * 1024 + k.val = 1024 * (c.val / 4) + k.val by omega)
    | ⟨1, _⟩ => exact Fin.ext (show 0 * 2048 + n.val = n.val by omega)

end Cert.KernelIdeal.Scatter

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Twin
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's run in machine floats: every execution ends, the arguments as they were and the counters at zero. -/
theorem frame_kernel : Cert.quiescent_Kernel := fun m ρ _ =>
  Cert.KernelIdeal.Scatter.frame_of_eq (F := Bits) Cert.Kernel.defs Cert.Kernel.main
    Cert.KernelIdeal.Scatter.twin_defs Cert.KernelIdeal.Scatter.twin_main m ρ

/-- The same of its ideal twin. -/
theorem frame_kernelIdeal : Cert.quiescent_KernelIdeal := fun m ρ _ =>
  (θ_run Cert.KernelIdeal.defs _ _).mono (fun _ h => ⟨fun c => (h.1 c).2, h.2⟩)
    (Cert.KernelIdeal.Scatter.run_main (F := Ideal) m ρ)

/-- The same of the reference, which starts no copy and touches no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value: over the extended reals every device's result is its block of the reference's product. -/
theorem algebraic : Cert.algebraic_KernelIdeal_ReferenceIdeal := by
  intro m ρ m' ρ' _ hagree
  refine ⟨Cert.KernelIdeal.Scatter.refV
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c).1.trans (Cert.KernelIdeal.Scatter.outV_block c
        (Cert.KernelIdeal.Scatter.placed m (fun c => (hagree c).1) (fun c => (hagree c).2))), (h.1 c).2⟩)
      (Cert.KernelIdeal.Scatter.run_main (F := Ideal) m ρ)
  · exact (θ_run Cert.ReferenceIdeal.defs _ _).mono (fun _ h => h 0)
      (Cert.ReferenceIdeal.Value.run (F := Ideal) m' ρ')

/-- All claims of the certificate. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
